-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![2048]⟩ (Layout.meshBlock [2, 2, 4] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![2048, 512]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S1024x512 : Shape := ⟨2, ![1024, 512]⟩
abbrev S1024 : Shape := ⟨1, ![1024]⟩
abbrev S_ : Shape := ⟨0, ![]⟩

class Facts : Prop where
  bcast_S_S1024 : S_.BroadcastsInDim S1024 (![] : Fin 0 → Fin S1024.rank)
  natLt_1_32 : 1 < 32
  reducesTo_S1024_S_d0 : S1024.ReducesTo [0] S_
  h_S_ : 0 < S_.numel

variable [Facts]

def fn {F : FTy → Type} [FloatOps F] (main_arg0 : FVec F S1024x512 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_v2 : IVec S1024 32 := (extui 32 · natLt_1_32) main_v1
  let main_c_0 : IVec S_ 32 := constantI S_ 32 0#32
  let main_v3 : IVec S_ 32 := (fun x v => Host.reduce IntOp.addi x v reducesTo_S1024_S_d0 h_S_) main_v2 main_c_0
  let main_c_1 : IVec S_ 32 := constantI S_ 32 512#32
  let main_v4 : IVec S_ 1 := cmpi .eq main_v3 main_c_1
  let main_c_2 : IVec S_ 32 := constantI S_ 32 1#32
  let main_v5 : IVec S1024 32 := broadcastInDim S1024 ![] bcast_S_S1024 main_c_2
  let main_v6 : IVec S1024 1 := cmpi .eq main_arg1 main_v5
  let main_v7 : IVec S1024 32 := (extui 32 · natLt_1_32) main_v6
  let main_c_3 : IVec S_ 32 := constantI S_ 32 0#32
  let main_v8 : IVec S_ 32 := (fun x v => Host.reduce IntOp.addi x v reducesTo_S1024_S_d0 h_S_) main_v7 main_c_3
  let main_c_4 : IVec S_ 32 := constantI S_ 32 512#32
  let main_v9 : IVec S_ 1 := cmpi .eq main_v8 main_c_4
  let main_v10 : IVec S_ 1 := andi main_v4 main_v9
  main_v10
-- ==== Pre_balanced_ReferenceIdeal.lean ====
abbrev S2048x512 : Shape := ⟨2, ![2048, 512]⟩
abbrev S2048 : Shape := ⟨1, ![2048]⟩
abbrev S_ : Shape := ⟨0, ![]⟩

class Facts : Prop where
  bcast_S_S2048 : S_.BroadcastsInDim S2048 (![] : Fin 0 → Fin S2048.rank)
  natLt_1_32 : 1 < 32
  reducesTo_S2048_S_d0 : S2048.ReducesTo [0] S_
  h_S_ : 0 < S_.numel

variable [Facts]

def fn {F : FTy → Type} [FloatOps F] (main_arg0 : FVec F S2048x512 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .eq main_arg1 main_v0
  let main_v2 : IVec S2048 32 := (extui 32 · natLt_1_32) main_v1
  let main_c_0 : IVec S_ 32 := constantI S_ 32 0#32
  let main_v3 : IVec S_ 32 := (fun x v => Host.reduce IntOp.addi x v reducesTo_S2048_S_d0 h_S_) main_v2 main_c_0
  let main_c_1 : IVec S_ 32 := constantI S_ 32 512#32
  let main_v4 : IVec S_ 1 := cmpi .eq main_v3 main_c_1
  let main_c_2 : IVec S_ 32 := constantI S_ 32 1#32
  let main_v5 : IVec S2048 32 := broadcastInDim S2048 ![] bcast_S_S2048 main_c_2
  let main_v6 : IVec S2048 1 := cmpi .eq main_arg1 main_v5
  let main_v7 : IVec S2048 32 := (extui 32 · natLt_1_32) main_v6
  let main_c_3 : IVec S_ 32 := constantI S_ 32 0#32
  let main_v8 : IVec S_ 32 := (fun x v => Host.reduce IntOp.addi x v reducesTo_S2048_S_d0 h_S_) main_v7 main_c_3
  let main_c_4 : IVec S_ 32 := constantI S_ 32 512#32
  let main_v9 : IVec S_ 1 := cmpi .eq main_v8 main_c_4
  let main_v10 : IVec S_ 1 := andi main_v4 main_v9
  main_v10
-- ==== Kernel.lean ====
abbrev S1024x512 : Shape := ⟨2, ![1024, 512]⟩
abbrev S1024 : Shape := ⟨1, ![1024]⟩
abbrev S16 : Shape := ⟨1, ![16]⟩
abbrev S2 : Shape := ⟨1, ![2]⟩
abbrev S_ : Shape := ⟨0, ![]⟩
abbrev S1 : Shape := ⟨1, ![1]⟩
abbrev S1x1024 : Shape := ⟨2, ![1, 1024]⟩
abbrev S1024x1024 : Shape := ⟨2, ![1024, 1024]⟩
abbrev S1x1x1024 : Shape := ⟨3, ![1, 1, 1024]⟩
abbrev S1x1x1 : Shape := ⟨3, ![1, 1, 1]⟩
abbrev S64x1024 : Shape := ⟨2, ![64, 1024]⟩
abbrev S64x512 : Shape := ⟨2, ![64, 512]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_4 : BitVec 32 := 8#32
  let v11 : BitVec 32 := Scalar.muli v5 c8_i32_4
  let v12 : BitVec 32 := Scalar.addi c0_i32 v11
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev3 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev4 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev5 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev6 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev7 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev8 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev9 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev10 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev11 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev12 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev13 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev14 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev15 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev16 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
def k0_dev17 (d0 : Dev nD) : Nat :=
  let c0_i32_274 : BitVec 32 := 0#32
  let v3 : BitVec 32 := Dev.word d0
  let c8_i32 : BitVec 32 := 8#32
  let v4 : BitVec 32 := Scalar.divsi v3 c8_i32
  let c2_i32_0 : BitVec 32 := 2#32
  let v5 : BitVec 32 := Scalar.remsi v4 c2_i32_0
  let c8_i32_273 : BitVec 32 := 8#32
  let v445 : BitVec 32 := Scalar.muli v5 c8_i32_273
  let v446 : BitVec 32 := Scalar.addi c0_i32_274 v445
  let c1_i32_2 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_2 v2
  let c4_i32_275 : BitVec 32 := 4#32
  let v447 : BitVec 32 := Scalar.muli v9 c4_i32_275
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v449 : BitVec 32 := Scalar.muli v8 c1_i32_276
  let v450 : BitVec 32 := Scalar.addi v448 v449
  v450.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x512 : Shape := ⟨2, ![2048, 512]⟩
abbrev S2048 : Shape := ⟨1, ![2048]⟩
abbrev S_ : Shape := ⟨0, ![]⟩
abbrev S2048x1 : Shape := ⟨2, ![2048, 1]⟩

abbrev nBuf : Space → Nat
  | .hbm => 15
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x512, .f32⟩
  | .hbm, ⟨14, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Cells.lean ====
/-
# The exchange: its semaphores, its chunks, what each device computes

Device `c` exchanges rows with its `peer`, the device of the other `y` coordinate. The rows to give away are sorted to
the front of a local buffer, sixteen chunks of 64 rows; with half of the rows to give away, chunks 0 to 7 are sent and
the others stay. Each chunk has a semaphore the sender waits on and one the receiver waits on, and one barrier
semaphore per device tells the peer that the landing buffer may be written.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters of the two local copies. -/
abbrev EC : UEmb Counters (MT nD τ sig Unit (Elt F) ℕ UU ℕ) := countersEmb

/-! ## The peer -/

set_option backward.proofsInPublic true in
/-- The device with the other `y` coordinate: with `c = 8 x + 4 y + z`, four away. -/
def peer (c : Dev nD) : Dev nD := ⟨if c.val % 8 < 4 then c.val + 4 else c.val - 4, by
  have h : c.val < 16 := c.isLt
  show _ < 16
  split <;> omega⟩

theorem peer_peer (c : Dev nD) : peer (peer c) = c := by revert c; decide
theorem peer_ne (c : Dev nD) : peer c ≠ c := by revert c; decide

/-- The pairing as a permutation of the devices. -/
def pair : Dev nD ≃ Dev nD := ⟨peer, peer, peer_peer, peer_peer⟩

/-! ## Chunks -/

theorem inbK (k : Fin 16) : ∀ a, (![64 * k.val, 0] : Fin 2 → Nat) a + S64x512.size a ≤ S1024x512.size a := by
  revert k; decide

/-- Rows `64 k` to `64 k + 63`. -/
abbrev rk (k : Fin 16) : Rect S1024x512 := Rect.unit (s := S1024x512) ![64 * k.val, 0] S64x512.size (inbK k)

/-- Chunk `k` of the local buffer and of the landing buffer. -/
abbrev xlM (k : Fin 16) : Memref sig .tc .vmem S64x512 .bf16 := (Memref.whole cc0_scratch1).slice (rk k) (fun _ => rfl)
abbrev pxM (k : Fin 16) : Memref sig .tc .vmem S64x512 .bf16 := (Memref.whole cc0_scratch2).slice (rk k) (fun _ => rfl)

/-- The bytes a chunk's transfer counts. -/
abbrev N : ℕ := (pxM 0).view.dmaCredit
theorem N_pos : 0 < N := View.dmaCredit_pos _ (by decide)
theorem N_px (k : Fin 16) : (pxM k).view.dmaCredit = N := rfl
theorem N_xl (k : Fin 16) : (xlM k).view.dmaCredit = N := rfl

/-! ## Semaphores -/

theorem inbS (k : Fin 16) : ∀ a, (![k.val] : Fin 1 → Nat) a + S1.size a ≤ S16.size a := by revert k; decide

abbrev barS : Sem sig := (SemArray.scalar (sig.barrier 0 rfl) : Sems sig S_).sem
/-- Element `k` of a row of sixteen semaphores. -/
abbrev semOf (a : DmaSems sig S16) (k : Fin 16) : DmaSem sig :=
  ((a.slice (Rect.unit (s := S16) ![k.val] S1.size (inbS k))).squeeze S_ squeezes_S1_S_).sem
abbrev sendS (k : Fin 16) : DmaSem sig := semOf cc0_scratch5 k
abbrev recvS (k : Fin 16) : DmaSem sig := semOf cc0_scratch6 k
/-- The semaphores of the two copies of the arguments into local memory. -/
abbrev inS0 : DmaSem sig := ((cc0_scratch7.slice (Rect.unit (s := S2) ![0] S1.size inb_S2_S1_0)).squeeze S_ squeezes_S1_S_).sem
abbrev inS1 : DmaSem sig := ((cc0_scratch7.slice (Rect.unit (s := S2) ![1] S1.size inb_S2_S1_1)).squeeze S_ squeezes_S1_S_).sem

/-- Which semaphore of the exchange: the barrier, a chunk's send, a chunk's receive. -/
abbrev CI : Type := Unit ⊕ (Fin 16 ⊕ Fin 16)
abbrev bI : CI := .inl ()
abbrev sI (k : Fin 16) : CI := .inr (.inl k)
abbrev rI (k : Fin 16) : CI := .inr (.inr k)

def csem : CI → SemLoc sig
  | .inl _ => .reg barS
  | .inr (.inl k) => .dma (sendS k)
  | .inr (.inr k) => .dma (recvS k)

theorem csem_inj : Function.Injective csem := by
  have : ∀ i j : CI, csem i = csem j → i = j := by decide +kernel
  exact fun i j h => this i j h

/-- A device's cell of the exchange. -/
abbrev kcell (ci : Dev nD × CI) : GSem nD τ sig := ((ci.1 : Thread nD τ), csem ci.2)
abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]

open Classical in
/-- The index of a semaphore among the exchange's. -/
def cls (s : SemLoc sig) : Option CI := if h : ∃ i, csem i = s then some h.choose else none

theorem cls_csem (i : CI) : cls (csem i) = some i := by
  have h : ∃ j, csem j = csem i := ⟨i, rfl⟩
  unfold cls; rw [dif_pos h, csem_inj h.choose_spec]

theorem cls_none {s : SemLoc sig} (h : ∀ i, csem i ≠ s) : cls s = none := by
  unfold cls; rw [dif_neg fun ⟨i, hi⟩ => h i hi]

/-- The chunks sent: those holding rows below 512. -/
abbrev Act (k : Fin 16) : Prop := k.val < 8

end Cert.Exchange

end
-- ==== Proof.Contents.lean ====
/-
# What a device computes before the exchange, and the pieces of its buffers

The rank of each row among the rows to give away (first) and to keep (after them), the chunks of the sorted buffer as
one-hot products, and the buffer they make up.
-/
module

public import proofs.«01_k».proof.Proof.Cells
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents -/

/-- Device `c`'s rows and their destinations. -/
abbrev xv (c : Dev nD) : Vec F S1024x512 .f32 := m ((c : Thread nD τ).loc main_arg0)
abbrev dv (c : Dev nD) : Vec F S1024 .i32 := m ((c : Thread nD τ).loc main_arg1)

/-- Which rows stay on the device, as a mask and as integers; the running counts of the staying rows. -/
def mask (c : Dev nD) : IVec S1x1024 1 := k0_pay1 c (dv m c)
def mdi (c : Dev nD) : IVec S1x1024 32 := k0_pay2 c (dv m c)
def incl (c : Dev nD) : IVec S1x1024 32 := k0_pay3 c (dv m c)
/-- How many rows stay, how many are given away. -/
def nSelf (c : Dev nD) : BitVec 32 := extractAt ![0, 0, 0] (k0_pay4 (mdi m c)) inpos_S1x1x1_p0_0_0
def nGive (c : Dev nD) : BitVec 32 := Scalar.subi 1024#32 (nSelf m c)
def rank (c : Dev nD) : IVec S1x1024 32 :=
  k0_pay5 (mask m c) (mdi m c) (incl m c) (iota .tc S1x1024 32 [1] iota_S1x1024_d1_w32)
/-- The rows, narrowed. -/
def xsv (c : Dev nD) : Vec F S1024x512 .bf16 := k0_pay6 (xv m c)

/-- Rows `64 k` to `64 k + 63` of the sorted rows: a one-hot product. -/
def chunkVal (k : Fin 16) (rk : IVec S1x1024 32) (xs : Vec F S1024x512 .bf16) : FVec F S64x512 .bf16 :=
  shapeCast S64x512
    (truncf .bf16
      (matmul dot_S64x1024_S1024x512_S64x512_1_0_0_1_n_n none
        (truncf .bf16
          (sitofp .f32
            (extui 32
              (cmpi .eq (addi (iota .tc S64x1024 32 [0] iota_S64x1024_d0_w32) (broadcast S64x1024 (BitVec.ofNat 32 (64 * k.val))))
                (broadcastTo S64x1024 rk broadcasts_S1x1024_S64x1024)) natLt_1_32)) bitsLt_bf16_f32)
        xs (constant S64x512 .f32 0x00000000#32)) bitsLt_bf16_f32) shapeCasts_S64x512_S64x512

theorem emb_row (k : Fin 16) (j : S64x512.Idx) : (((rk k).emb j) 0 : Nat) = 64 * k.val + (j 0 : Nat) := by
  rw [Rect.emb_apply]; show 64 * k.val + 1 * (j 0 : Nat) = _; omega
theorem emb_col (k : Fin 16) (j : S64x512.Idx) : (((rk k).emb j) 1 : Nat) = (j 1 : Nat) := by
  rw [Rect.emb_apply]; show 0 + 1 * (j 1 : Nat) = _; omega

/-- The chunk a row lies in, and its place there. -/
def kOf (i : S1024x512.Idx) : Fin 16 := ⟨(i 0 : Nat) / 64, by have : (i 0 : Nat) < 1024 := (i 0).isLt; omega⟩
def jOf (i : S1024x512.Idx) : S64x512.Idx := fun a => match a with
  | ⟨0, _⟩ => ⟨(i 0 : Nat) % 64, Nat.mod_lt _ (by decide)⟩
  | ⟨1, _⟩ => ⟨(i 1 : Nat), (i 1).isLt⟩

theorem kOf_emb (k : Fin 16) (j : S64x512.Idx) : kOf ((rk k).emb j) = k := by
  have h : (j 0 : Nat) < 64 := (j 0).isLt
  apply Fin.ext; show (((rk k).emb j) 0 : Nat) / 64 = _; rw [emb_row]; omega
theorem jOf_emb (k : Fin 16) (j : S64x512.Idx) : jOf ((rk k).emb j) = j := by
  have h : (j 0 : Nat) < 64 := (j 0).isLt
  funext a
  match a with
  | ⟨0, _⟩ => apply Fin.ext; show (((rk k).emb j) 0 : Nat) % 64 = _; rw [emb_row]; show _ = (j 0 : Nat); omega
  | ⟨1, _⟩ => apply Fin.ext; show (((rk k).emb j) 1 : Nat) = _; rw [emb_col]; rfl
theorem emb_kOf (i : S1024x512.Idx) : (rk (kOf i)).emb (jOf i) = i := by
  funext a
  match a with
  | ⟨0, _⟩ => apply Fin.ext; show (((rk (kOf i)).emb (jOf i)) 0 : Nat) = _; rw [emb_row]; show 64 * ((i 0 : Nat) / 64) + (i 0 : Nat) % 64 = (i 0 : Nat); omega
  | ⟨1, _⟩ => apply Fin.ext; show (((rk (kOf i)).emb (jOf i)) 1 : Nat) = _; rw [emb_col]; rfl

/-- Device `c`'s sorted rows. -/
def XL (c : Dev nD) : Vec F S1024x512 .bf16 := fun i => chunkVal (kOf i) (rank m c) (xsv m c) (jOf i)

theorem XL_emb (c : Dev nD) (k : Fin 16) (j : S64x512.Idx) : XL m c ((rk k).emb j) = chunkVal k (rank m c) (xsv m c) j := by
  unfold XL; rw [kOf_emb, jOf_emb]

/-! ## Pieces -/

/-- Chunk `k` of the local buffer, of the landing buffer, at a share and contents. -/
def xlP (c : Dev nD) (k : Fin 16) (q : PosShare TreeShare) (f : Vec F S1024x512 .bf16) : sProp 𝕄 :=
  (xlM k).view.loc (c : Thread nD τ) ↦[(xlM k).view.set]{q} f
def pxP (c : Dev nD) (k : Fin 16) (f : Vec F S1024x512 .bf16) : sProp 𝕄 :=
  (pxM k).view.loc (c : Thread nD τ) ↦[(pxM k).view.set]{fullShare} f

omit [FloatOps F] in
instance xlP_storable (c : Dev nD) (k q f) : BI.Storable (upEmb : UEmb _ 𝕄) (xlP (F := F) c k q f) := by unfold xlP; infer_instance
omit [FloatOps F] in
instance pxP_storable (c : Dev nD) (k f) : BI.Storable (upEmb : UEmb _ 𝕄) (pxP (F := F) c k f) := by unfold pxP; infer_instance

theorem xl_set (k : Fin 16) : (xlM k).view.set = (rk k).set := View.set_slice_whole _ _
theorem px_set (k : Fin 16) : (pxM k).view.set = (rk k).set := View.set_slice_whole _ _

theorem rk_disjoint (b b' : Fin 16) (h : b ≠ b') : Disjoint (rk b).set (rk b').set := by
  have hb : b.val ≠ b'.val := fun e => h (Fin.ext e)
  refine Rect.unit_disjoint (0 : Fin 2) ?_
  show 64 * b.val + 64 ≤ 64 * b'.val ∨ 64 * b'.val + 64 ≤ 64 * b.val
  omega

theorem mem_rk (i : S1024x512.Idx) : i ∈ (rk (kOf i)).set := by
  rw [← Rect.map_emb_univ, Finset.mem_map]; exact ⟨jOf i, Finset.mem_univ _, emb_kOf i⟩
theorem mem_rk_iff (k : Fin 16) (i : S1024x512.Idx) : i ∈ (rk k).set ↔ ∃ j, (rk k).emb j = i := by
  rw [← Rect.map_emb_univ, Finset.mem_map]
  exact ⟨fun ⟨j, _, h⟩ => ⟨j, h⟩, fun ⟨j, h⟩ => ⟨j, Finset.mem_univ _, h⟩⟩
theorem rk_cover : (Finset.univ : Finset (Fin 16)).biUnion (fun k => (rk k).set) = Finset.univ := by
  ext i; simp only [Finset.mem_biUnion, Finset.mem_univ, true_and, iff_true]; exact ⟨kOf i, mem_rk i⟩

omit [FloatOps F] in
/-- The whole buffer is its chunks. -/
theorem xl_pieces (c : Dev nD) (q : PosShare TreeShare) (f : Vec F S1024x512 .bf16) :
    ((((c : Thread nD τ).loc cc0_scratch1) ↦{q} f : sProp 𝕄)) = bigSep Finset.univ fun k => xlP c k q f := by
  have h := Ring.pointsTo_blocks (Ix := Unit) (Name := ℕ) (U := UU) (Lvl := ℕ) (ℓ := (c : Thread nD τ).loc cc0_scratch1) (q := q) (fun k : Fin 16 => (rk k).set) rk_disjoint rk_cover f
  refine h.trans (bigSep_congr fun k _ => ?_)
  unfold xlP; rw [xl_set]
omit [FloatOps F] in
theorem px_pieces (c : Dev nD) (f : Vec F S1024x512 .bf16) :
    ((((c : Thread nD τ).loc cc0_scratch2) ↦{fullShare} f : sProp 𝕄)) = bigSep Finset.univ fun k => pxP c k f := by
  have h := Ring.pointsTo_blocks (Ix := Unit) (Name := ℕ) (U := UU) (Lvl := ℕ) (ℓ := (c : Thread nD τ).loc cc0_scratch2) (q := fullShare) (fun k : Fin 16 => (rk k).set) rk_disjoint rk_cover f
  refine h.trans (bigSep_congr fun k _ => ?_)
  unfold pxP; rw [px_set]

omit [FloatOps F] in
/-- Only a piece's own cells count. -/
theorem xlP_congr (c : Dev nD) (k : Fin 16) (q : PosShare TreeShare) {f g : Vec F S1024x512 .bf16}
    (h : ∀ j, f ((rk k).emb j) = g ((rk k).emb j)) : xlP (F := F) c k q f = xlP c k q g := by
  unfold xlP
  refine pointsTo_congr fun i hi => ?_
  rw [xl_set] at hi
  obtain ⟨j, rfl⟩ := (mem_rk_iff k i).1 hi
  exact h j
omit [FloatOps F] in
theorem pxP_congr (c : Dev nD) (k : Fin 16) {f g : Vec F S1024x512 .bf16}
    (h : ∀ j, f ((rk k).emb j) = g ((rk k).emb j)) : pxP (F := F) c k f = pxP c k g := by
  unfold pxP
  refine pointsTo_congr fun i hi => ?_
  rw [px_set] at hi
  obtain ⟨j, rfl⟩ := (mem_rk_iff k i).1 hi
  exact h j

omit [FloatOps F] in
theorem xlP_split (c : Dev nD) (k : Fin 16) (f : Vec F S1024x512 .bf16) :
    xlP (F := F) c k fullShare f ⊣⊢ iprop(xlP c k fullShare.left f ∗ xlP c k fullShare.right f) := by
  unfold xlP; exact pointsTo_share (PosShare.mem_left_op_right fullShare)

end Cert.Exchange

end
-- ==== Proof.Schedule.lean ====
/-
# The protocol: who pays which semaphore, with what, and in which order devices wait

One round. The peer's barrier signal hands over the peer's landing chunks 0 to 7; the peer's copy of chunk `k` pays the
receive semaphore of `k` and hands over the landed chunk; a device's own copy pays its send semaphore of `k` and gives back
the half of the sent chunk that the copy read. Chunks 8 to 15 are never sent, so their semaphores have no duties.
-/
module

public import proofs.«01_k».proof.Proof.Contents

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The landing chunks of device `c` that are sent to. -/
def openPx (c : Dev nD) : sProp 𝕄 :=
  bigSep Finset.univ fun k : Fin 16 => if Act k then iprop(∃ f, pxP c k f) else iprop(emp)
def recvPay (c : Dev nD) (k : Fin 16) : sProp 𝕄 := pxP c k (XL m (peer c))
def sendPay (c : Dev nD) (k : Fin 16) : sProp 𝕄 := xlP c k fullShare.right (XL m c)

def hasDuty : CI → Prop
  | .inl _ => True
  | .inr (.inl k) => Act k
  | .inr (.inr k) => Act k
instance : DecidablePred hasDuty := fun i => match i with
  | .inl _ => instDecidableTrue
  | .inr (.inl k) => inferInstanceAs (Decidable (Act k))
  | .inr (.inr k) => inferInstanceAs (Decidable (Act k))
def amt : CI → ℕ
  | .inl _ => 1
  | .inr _ => N
theorem amt_pos (i : CI) : 0 < amt i := by cases i; exact Nat.one_pos; exact N_pos
def pay (c : Dev nD) : CI → sProp 𝕄
  | .inl _ => openPx (peer c)
  | .inr (.inl k) => sendPay m c k
  | .inr (.inr k) => recvPay m c k
instance pay_storable (c : Dev nD) (i : CI) : BI.Storable (upEmb : UEmb _ 𝕄) (pay m c i) := by
  rcases i with u | k | k
  · show BI.Storable upEmb (openPx (F := F) (peer c)); unfold openPx
    have : ∀ k : Fin 16, BI.Storable (upEmb : UEmb _ 𝕄) (if Act k then iprop(∃ f, pxP (F := F) (peer c) k f) else iprop(emp)) :=
      fun k => by split <;> infer_instance
    infer_instance
  · show BI.Storable upEmb (sendPay m c k); unfold sendPay; infer_instance
  · show BI.Storable upEmb (recvPay m c k); unfold recvPay; infer_instance

/-- The schedule: round 0 only, a duty for the barrier and for each chunk sent. -/
def sched : Rounds.Schedule (GSem nD τ sig) Unit 𝕄 where
  duties g r := if r = 0 ∧ g.1.2 = .tc then (match cls g.2 with | some i => if hasDuty i then {()} else ∅ | none => ∅) else ∅
  unitless _ := False
  amount g _ _ := match cls g.2 with | some i => amt i | none => 1
  payload g _ _ := match cls g.2 with | some i => pay m g.1.1 i | none => iprop(emp)
  amount_pos g _ _ _ := by
    cases cls g.2 with
    | none => exact Nat.one_pos
    | some i => exact amt_pos i

instance sched_payload_storable (g : GSem nD τ sig) (r : ℕ) (d : Unit) :
    BI.Storable (upEmb : UEmb _ 𝕄) ((sched (F := F) m).payload g r d) := by
  show BI.Storable upEmb (match cls g.2 with | some i => pay m g.1.1 i | none => iprop(emp))
  cases cls g.2 <;> infer_instance

section Sched
variable (c : Dev nD) (i : CI)

theorem duties_eq : (sched (F := F) m).duties (kcell (c, i)) 0 = if hasDuty i then {()} else ∅ := by
  dsimp only [sched]; rw [if_pos ⟨rfl, rfl⟩, cls_csem]
theorem duties_on (h : hasDuty i) : (sched (F := F) m).duties (kcell (c, i)) 0 = {()} := by rw [duties_eq, if_pos h]
theorem duties_off (h : ¬ hasDuty i) (r : ℕ) : (sched (F := F) m).duties (kcell (c, i)) r = ∅ := by
  dsimp only [sched]; rw [cls_csem]; dsimp only; rw [if_neg h, ite_self]
theorem duties_later (g : GSem nD τ sig) : ∀ r, 1 ≤ r → (sched (F := F) m).duties g r = ∅ :=
  fun r hr => by dsimp only [sched]; rw [if_neg fun h => by omega]
theorem amount_eq (r : ℕ) (d : Unit) : (sched (F := F) m).amount (kcell (c, i)) r d = amt i := by dsimp only [sched]; rw [cls_csem]
theorem payload_eq (r : ℕ) (d : Unit) : (sched (F := F) m).payload (kcell (c, i)) r d = pay m c i := by dsimp only [sched]; rw [cls_csem]
theorem expect_on (h : hasDuty i) : (sched (F := F) m).expect (kcell (c, i)) 0 = amt i := by
  unfold Schedule.expect Schedule.amountOf; rw [duties_on m c i h, Finset.sum_singleton, amount_eq]
theorem rest_on (h : hasDuty i) : bigSep ((sched (F := F) m).duties (kcell (c, i)) 0 \ ∅) (fun d => (sched (F := F) m).payload (kcell (c, i)) 0 d) = pay m c i := by
  rw [Finset.sdiff_empty, duties_on m c i h, bigSep_singleton, payload_eq]

end Sched

/-! ## What is owed; levels -/

/-- The receive credits device `c` still owes its peer when chunks below `n` are done. -/
def Osend (c : Dev nD) (n : ℕ) : CellTallies nD τ sig Unit :=
  ∑ k : Fin 16, if n ≤ k.val ∧ Act k then tallyAt (recvCell (peer c) k) () N else 0
def O₀ (c : Dev nD) : CellTallies nD τ sig Unit := Osend c 0 + tallyAt (barCell (peer c)) () 1

theorem Osend_step (c : Dev nD) (k : Fin 16) (h : Act k) : Osend c k.val = Osend c (k.val + 1) + tallyAt (recvCell (peer c) k) () N := by
  unfold Osend
  rw [← Finset.add_sum_erase _ _ (Finset.mem_univ k), ← Finset.add_sum_erase (a := k) (s := Finset.univ) (f := fun k_1 : Fin 16 => if k.val + 1 ≤ k_1.val ∧ Act k_1 then _ else _) (h := Finset.mem_univ k),
    if_pos ⟨le_refl _, h⟩, if_neg (fun h => by omega), zero_add, add_comm]
  congr 1
  refine Finset.sum_congr rfl fun j hj => ?_
  have hne : j.val ≠ k.val := fun e => Finset.ne_of_mem_erase hj (Fin.ext e)
  by_cases h1 : k.val ≤ j.val ∧ Act j
  · rw [if_pos h1, if_pos ⟨by omega, h1.2⟩]
  · rw [if_neg h1, if_neg fun h2 => h1 ⟨by omega, h2.2⟩]
theorem Osend_skip (c : Dev nD) (n n' : ℕ) (h : 8 ≤ n) (h' : 8 ≤ n') : Osend c n = Osend c n' := by
  unfold Osend
  refine Finset.sum_congr rfl fun j hj => ?_
  rw [if_neg fun h2 => by have := h2.2; omega, if_neg fun h2 => by have := h2.2; omega]
theorem Osend_done (c : Dev nD) (n : ℕ) (h : 8 ≤ n) : Osend c n = 0 :=
  Finset.sum_eq_zero fun j _ => if_neg fun h2 => by have := h2.2; omega

def L (g : GSem nD τ sig) : Finset Unit := if g.1.2 = .tc then {()} else ∅
/-- Barriers at 1, receive semaphores at 2, everything else at 0. -/
def lv (g : GSem nD τ sig) (_ : Unit) : ℕ :=
  match cls g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [show (barCell c).2 = csem bI from rfl, cls_csem]
theorem lv_recv (c : Dev nD) (k : Fin 16) : lv (recvCell c k) () = 2 := by unfold lv; rw [show (recvCell c k).2 = csem (rI k) from rfl, cls_csem]

theorem tallyAt_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem Osend_pos {c : Dev nD} {n : ℕ} {g : GSem nD τ sig} {u : Unit} (h : 0 < Osend c n g u) : ∃ k, g = recvCell (peer c) k := by
  unfold Osend at h
  rw [Finset.sum_apply, Finsupp.finset_sum_apply] at h
  obtain ⟨k, _, hk⟩ := Finset.exists_ne_zero_of_sum_ne_zero (Nat.pos_iff_ne_zero.1 h)
  by_cases hc : n ≤ k.val ∧ Act k
  · rw [if_pos hc] at hk; exact ⟨k, tallyAt_pos (Nat.pos_of_ne_zero hk)⟩
  · rw [if_neg hc] at hk; exact absurd rfl hk

theorem O₀_pos {c : Dev nD} {g : GSem nD τ sig} {u : Unit} (h : 0 < O₀ c g u) : (∃ k, g = recvCell (peer c) k) ∨ g = barCell (peer c) := by
  unfold O₀ at h
  rw [Pi.add_apply, Finsupp.add_apply] at h
  rcases Nat.eq_zero_or_pos (Osend c 0 g u) with h0 | h0
  · rw [h0, Nat.zero_add] at h; exact .inr (tallyAt_pos h)
  · exact .inl (Osend_pos h0)

omit [FloatOps F] in
/-- A wait on a semaphore of level 0, whatever of the start's debts is left. -/
theorem mayWait_low (c : Dev nD) (q : SemLoc sig) (hq : lv ((c : Thread nD τ), q) () = 0) (O : CellTallies nD τ sig Unit)
    (hO : ∀ g u, 0 < O g u → (∃ k, g = recvCell (peer c) k) ∨ g = barCell (peer c)) :
    (levAts L lv : sProp 𝕄) ⊢ MayWait (c : Thread nD τ) q () O :=
  MayOwe.of_cut (L := L) (lev := lv) 0 (fun p hp => by rw [Finset.mem_singleton.mp hp, L_tc]; exact Finset.mem_singleton_self _)
    (fun g u hg => by rcases hO g u hg with ⟨k, rfl⟩ | rfl <;> exact Finset.mem_singleton_self _)
    (fun p hp => by rw [Finset.mem_singleton.mp hp]; exact le_of_eq hq)
    (fun g u hg => by
      rcases hO g u hg with ⟨k, rfl⟩ | rfl
      · rw [lv_recv]; decide
      · rw [lv_bar]; decide)

omit [FloatOps F] in
theorem mayWait_bar (c : Dev nD) (n : ℕ) : (levAts L lv : sProp 𝕄) ⊢ MayWait (c : Thread nD τ) (.reg barS) () (Osend c n) :=
  MayOwe.of_cut (L := L) (lev := lv) 1 (fun p hp => by rw [Finset.mem_singleton.mp hp, L_tc]; exact Finset.mem_singleton_self _)
    (fun g u hg => by obtain ⟨k, rfl⟩ := Osend_pos hg; exact Finset.mem_singleton_self _)
    (fun p hp => by rw [Finset.mem_singleton.mp hp]; exact le_of_eq (lv_bar c))
    (fun g u hg => by obtain ⟨k, rfl⟩ := Osend_pos hg; rw [lv_recv]; decide)

/-- A semaphore outside the exchange is at level 0. -/
theorem lv_other (c : Dev nD) (q : SemLoc sig) (h : ∀ i, csem i ≠ q) : lv ((c : Thread nD τ), q) () = 0 := by
  unfold lv; rw [cls_none h]

theorem in0_other : ∀ i, csem i ≠ .dma inS0 := by decide +kernel
theorem in1_other : ∀ i, csem i ≠ .dma inS1 := by decide +kernel

end Cert.Exchange

end
-- ==== Proof.Steps.lean ====
/-
# The steps of a device's run: sorting and sending one chunk, waiting for one chunk

The state between two chunks, and one lemma per step, stated for a chunk `k`; the printed program is a sequence of them.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A step's weakest precondition on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The records every device has -/

def records (K : Dev nD × CI → ℕ) : sProp 𝕄 :=
  iprop((bigSep Finset.univ fun ci : Dev nD × CI => cellInv ER (sched m) (K ci) (kcell ci))
    ∗ bigSep Finset.univ fun ci : Dev nD × CI => reached ER (kcell ci) 0)

instance records_persistent (K : Dev nD × CI → ℕ) : BI.Persistent (records m K) := by unfold records; infer_instance

theorem inv_at (K : Dev nD × CI → ℕ) (c : Dev nD) (i : CI) : records m K ⊢ cellInv ER (sched m) (K (c, i)) (kcell (c, i)) := by
  unfold records
  exact sep_elim_left.trans (bigSep_elim (Finset.mem_univ (c, i)))
theorem reached_at (K : Dev nD × CI → ℕ) (c : Dev nD) (i : CI) : records m K ⊢ reached ER (kcell (c, i)) 0 := by
  unfold records
  exact sep_elim_right.trans (bigSep_elim (Finset.mem_univ (c, i)))

/-! ## A row of sixteen, done up to `n` -/

/-- `D k` below `n`, `T k` from `n` on. -/
def upTo (n : ℕ) (D T : Fin 16 → sProp 𝕄) : sProp 𝕄 := bigSep Finset.univ fun k : Fin 16 => if k.val < n then D k else T k
/-- The same without `k`. -/
def upToBut (k : Fin 16) (D T : Fin 16 → sProp 𝕄) : sProp 𝕄 := bigSep (Finset.univ.erase k) fun j : Fin 16 => if j.val < k.val then D j else T j

omit [FloatOps F] in
theorem upTo_open (k : Fin 16) (D T : Fin 16 → sProp 𝕄) : upTo k.val D T = iprop(T k ∗ upToBut k D T) := by
  unfold upTo upToBut; rw [BI.bigSep_univ_split k, if_neg (lt_irrefl _)]; rfl
omit [FloatOps F] in
theorem upTo_close (k : Fin 16) (D T : Fin 16 → sProp 𝕄) : upTo (k.val + 1) D T = iprop(D k ∗ upToBut k D T) := by
  unfold upTo upToBut; rw [BI.bigSep_univ_split k, if_pos (Nat.lt_succ_self _)]
  congr 1
  refine bigSep_congr fun j hj => ?_
  have hne : j.val ≠ k.val := fun e => Finset.ne_of_mem_erase hj (Fin.ext e)
  by_cases h : j.val < k.val
  · rw [if_pos h, if_pos (by omega)]
  · rw [if_neg h, if_neg (by omega)]
omit [FloatOps F] in
theorem upTo_none (D T : Fin 16 → sProp 𝕄) : upTo 0 D T = bigSep Finset.univ T := by
  unfold upTo; exact bigSep_congr fun j _ => if_neg (Nat.not_lt_zero _)
omit [FloatOps F] in
theorem upTo_all (D T : Fin 16 → sProp 𝕄) : upTo 16 D T = bigSep Finset.univ D := by
  unfold upTo; exact bigSep_congr fun j _ => if_pos j.isLt
omit [FloatOps F] in
theorem upTo_skip (n n' : ℕ) (hn : 8 ≤ n) (hn' : 8 ≤ n') (D T : Fin 16 → sProp 𝕄) (h : ∀ k, ¬ Act k → D k = T k) : upTo n D T = upTo n' D T := by
  unfold upTo
  refine bigSep_congr fun j _ => ?_
  by_cases hj : Act j
  · rw [if_pos (by have : j.val < 8 := hj; omega), if_pos (by have : j.val < 8 := hj; omega)]
  · rw [h j hj, ite_self, ite_self]

/-! ## Sorting and sending -/

def sTodo (c : Dev nD) (k : Fin 16) : sProp 𝕄 :=
  iprop((∃ f, xlP c k fullShare f)
    ∗ (if Act k then iprop((∃ f, pxP (peer c) k f) ∗ dutyTok ER (sendCell c k) 0 () ∗ dutyTok ER (recvCell (peer c) k) 0 ()) else iprop(emp)))
def sDone (c : Dev nD) (k : Fin 16) : sProp 𝕄 :=
  iprop(xlP c k fullShare.left (XL m c) ∗ (if Act k then cred (tallyAt (sendCell c k) () N) else xlP c k fullShare.right (XL m c)))
def xsPts (c : Dev nD) : sProp 𝕄 := ((c : Thread nD τ).loc cc0_scratch0) ↦{fullShare} xsv m c

/-- Chunks below `n` sorted and sent. -/
def St (K : Dev nD × CI → ℕ) (c : Dev nD) (n : ℕ) : sProp 𝕄 :=
  iprop(records m K ∗ upTo n (sDone m c) (sTodo c) ∗ xsPts m c ∗ ∃ W, owes (c : Thread nD τ) (Osend c n) W)

theorem hz2 : (![0, 0] : Fin 2 → Nat) = fun _ => 0 := funext fun a => by fin_cases a <;> rfl

omit [FloatOps F] in
theorem read_xs (f : Vec F S1024x512 .bf16) {inb} : (Memref.whole cc0_scratch0 : Memref sig .tc .vmem S1024x512 .bf16).view.readAt (Elt F)
    (Rect.unit (s := S1024x512) ![0, 0] S1024x512.size inb).toLoadRect f = f :=
  Memref.readAt_unit_zero (Elt F) cc0_scratch0 hz2 _ _

theorem load_sub (k : Fin 16) : (Memref.whole cc0_scratch1 : Memref sig .tc .vmem S1024x512 .bf16).view.setOn (rk k).toLoadRect.set ⊆ (xlM k).view.set := by
  rw [xl_set]; intro i hi
  obtain ⟨x, hx, rfl⟩ := Finset.mem_map.1 hi
  exact hx

section Steps
variable (K : Dev nD × CI → ℕ) (c : Dev nD) {α : Type} {Q : α → sProp (MT nD τ sig Unit (Elt F) ℕ UU ℕ)}

theorem wp_load_xs (n : ℕ) {inb} {hl : (Memref.whole cc0_scratch0 : Memref sig .tc .vmem S1024x512 .bf16).view.LoadsAt (Rect.unit (s := S1024x512) ![0, 0] S1024x512.size inb).toLoadRect}
    {kont : _ → Prog (TpuEff nD τ sig (Elt F) Λ₀ .tc) α} :
    St m K c n ⊢ iprop((St m K c n -∗ wpc c (kont (xsv m c)) Q)
      -∗ wpc c (.op (.load (Memref.whole cc0_scratch0 : Memref sig .tc .vmem S1024x512 .bf16) (Rect.unit (s := S1024x512) ![0, 0] S1024x512.size inb).toLoadRect hl) kont) Q) := by
  unfold St xsPts
  iintro ⟨#HR, HU, Hx, HO⟩ HK
  iapply (wp_load 𝒱₀ (c : Thread nD τ) none Set.univ (m := (Memref.whole cc0_scratch0 : Memref sig .tc .vmem S1024x512 .bf16)) (Finset.subset_univ _)) $$ Hx; iintro Hx
  rw [read_xs]
  iapply HK
  isplitr; · iexact HR
  isplitl [HU]; · iexact HU
  isplitl [Hx]; · iexact Hx
  iexact HO

/-- Chunk `k` of the local buffer as the view a store of it goes through. -/
theorem acc_set (k : Fin 16) (S : Finset _) (hS : S = (xlM k).view.set) :
    ((Memref.whole cc0_scratch1 : Memref sig .tc .vmem S1024x512 .bf16).access (rk k)).setOn Finset.univ ⊆ S := by subst hS; exact subset_rfl

omit [FloatOps F] in
/-- What a store of chunk `k` leaves. -/
theorem write_chunk (k : Fin 16) (f : Vec F S1024x512 .bf16) (w : Vec F S64x512 .bf16) (j : S64x512.Idx) :
    ((Memref.whole cc0_scratch1 : Memref sig .tc .vmem S1024x512 .bf16).access (rk k)).write (Elt F) f w Finset.univ ((rk k).emb j) = w j :=
  (View.write_emb_of_mem (v := (View.whole cc0_scratch1).slice (rk k)) (Val := Elt F) f w (M := Finset.univ) (x := j) (Finset.mem_univ _)).trans rfl

/-- Loading (unused) and storing chunk `k`. -/
theorem wp_sort (k : Fin 16) {off : Fin 2 → ℕ} (hoff : off = ![64 * k.val, 0]) {inb inb'}
    {hl : (Memref.whole cc0_scratch1 : Memref sig .tc .vmem S1024x512 .bf16).view.LoadsAt (Rect.unit (s := S1024x512) off S64x512.size inb).toLoadRect}
    {w : Vec F S64x512 .bf16} (hw : w = chunkVal k (rank m c) (xsv m c))
    {hx : ((Memref.whole cc0_scratch1 : Memref sig .tc .vmem S1024x512 .bf16).access (Rect.unit (s := S1024x512) off S64x512.size inb')).Stores Finset.univ} {hm}
    {kont : Prog (TpuEff nD τ sig (Elt F) Λ₀ .tc) α} (f : Vec F S1024x512 .bf16) :
    xlP c k fullShare f ⊢ iprop((xlP c k fullShare (XL m c) -∗ wpc c kont Q)
      -∗ wpc c (.op (.load (Memref.whole cc0_scratch1 : Memref sig .tc .vmem S1024x512 .bf16) (Rect.unit (s := S1024x512) off S64x512.size inb).toLoadRect hl)
          fun _ => .op (.store (Memref.whole cc0_scratch1 : Memref sig .tc .vmem S1024x512 .bf16) (Rect.unit (s := S1024x512) off S64x512.size inb') w Finset.univ hx hm) fun _ => kont) Q) := by
  subst hoff hw
  iintro Hx HK
  ihave Hx := (show xlP c k fullShare f ⊢ iprop((Memref.whole cc0_scratch1 : Memref sig .tc .vmem S1024x512 .bf16).view.loc (c : Thread nD τ) ↦[(xlM k).view.set]{fullShare} f) from BI.Entails.refl _) $$ Hx
  iapply (wp_load 𝒱₀ (c : Thread nD τ) none Set.univ (m := (Memref.whole cc0_scratch1 : Memref sig .tc .vmem S1024x512 .bf16))
    (load_sub k)) $$ Hx; iintro Hx
  ihave Hx := (show iprop((Memref.whole cc0_scratch1 : Memref sig .tc .vmem S1024x512 .bf16).view.loc (c : Thread nD τ) ↦[(xlM k).view.set]{fullShare} f)
    ⊢ iprop(((Memref.whole cc0_scratch1 : Memref sig .tc .vmem S1024x512 .bf16).access (rk k)).loc (c : Thread nD τ) ↦[(xlM k).view.set]{fullShare} f) from BI.Entails.refl _) $$ Hx
  iapply (wp_store 𝒱₀ (c : Thread nD τ) none Set.univ (m := (Memref.whole cc0_scratch1 : Memref sig .tc .vmem S1024x512 .bf16)) (r := rk k) (Mk := Finset.univ) (acc_set k _ rfl)) $$ Hx; iintro Hx
  iapply HK
  ihave Hx := (show iprop(((Memref.whole cc0_scratch1 : Memref sig .tc .vmem S1024x512 .bf16).access (rk k)).loc (c : Thread nD τ) ↦[(xlM k).view.set]{fullShare}
      ((Memref.whole cc0_scratch1 : Memref sig .tc .vmem S1024x512 .bf16).access (rk k)).write (Elt F) f (chunkVal k (rank m c) (xsv m c)) Finset.univ)
    ⊢ xlP c k fullShare (XL m c) from Entails.of_eq (xlP_congr c k fullShare fun j => (write_chunk k f _ j).trans (XL_emb m c k j).symm)) $$ Hx
  iexact Hx

/-- A chunk that stays. -/
theorem wp_keep (k : Fin 16) {a b : ℕ} (ha : k.val = a) (hb : k.val + 1 = b) (hk : ¬ Act k) {off : Fin 2 → ℕ} (hoff : off = ![64 * k.val, 0]) {inb inb'}
    {hl : (Memref.whole cc0_scratch1 : Memref sig .tc .vmem S1024x512 .bf16).view.LoadsAt (Rect.unit (s := S1024x512) off S64x512.size inb).toLoadRect}
    {w : Vec F S64x512 .bf16} (hw : w = chunkVal k (rank m c) (xsv m c))
    {hx : ((Memref.whole cc0_scratch1 : Memref sig .tc .vmem S1024x512 .bf16).access (Rect.unit (s := S1024x512) off S64x512.size inb')).Stores Finset.univ} {hm}
    {kont : Prog (TpuEff nD τ sig (Elt F) Λ₀ .tc) α} :
    St m K c a ⊢ iprop((St m K c b -∗ wpc c kont Q)
      -∗ wpc c (.op (.load (Memref.whole cc0_scratch1 : Memref sig .tc .vmem S1024x512 .bf16) (Rect.unit (s := S1024x512) off S64x512.size inb).toLoadRect hl)
          fun _ => .op (.store (Memref.whole cc0_scratch1 : Memref sig .tc .vmem S1024x512 .bf16) (Rect.unit (s := S1024x512) off S64x512.size inb') w Finset.univ hx hm) fun _ => kont) Q) := by
  subst ha hb
  unfold St
  rw [upTo_open, upTo_close, Osend_skip c k.val (k.val + 1) (by have : ¬ k.val < 8 := hk; omega) (by have : ¬ k.val < 8 := hk; omega)]
  unfold sTodo sDone
  rw [if_neg hk, if_neg hk]
  iintro ⟨#HR, ⟨⟨⟨%f, Hc⟩, -⟩, HU⟩, Hx, HO⟩ HK
  iapply (wp_sort m c k hoff hw f) $$ Hc; iintro Hc
  iapply HK
  isplitr; · iexact HR
  isplitl [Hc HU]
  · isplitl [Hc]
    · iapply (xlP_split c k (XL m c)).1; iexact Hc
    · iexact HU
  isplitl [Hx]; · iexact Hx
  iexact HO

omit [FloatOps F] in
/-- What a landing leaves. -/
theorem land_chunk (k : Fin 16) (f g : Vec F S1024x512 .bf16) (j : S64x512.Idx) :
    (pxM k).view.write (Elt F) f ((xlM k).view.read (Elt F) g) Finset.univ ((rk k).emb j) = g ((rk k).emb j) :=
  (View.write_emb_of_mem (v := (View.whole cc0_scratch2).slice (rk k)) (Val := Elt F) f ((xlM k).view.read (Elt F) g) (M := Finset.univ) (x := j)
    (Finset.mem_univ _)).trans rfl

/-- The copy of chunk `k` to the peer. -/
theorem wp_give (k : Fin 16) (hk : Act k) {src dst : Memref sig .tc .vmem S64x512 .bf16} (hsrc : src = xlM k) (hdst : dst = pxM k)
    {sS rS : DmaSem sig} (hsS : sS = sendS k) (hrS : rS = recvS k) {n : Dev nD} (hn : n = peer c)
    {hsc : dst.view.ref.isScScratch = false} {h1 : src.view.WordExact} {h2 : dst.view.WordExact}
    {h3 : DmaTarget.Typed .vmem (.dma rS) (.remote (Dev.tc n : Thread nD τ) dst (.dma sS) hsc)}
    {kont : PUnit → Prog (TpuEff nD τ sig (Elt F) Λ₀ .tc) α} (fn : Vec F S1024x512 .bf16) (O : CellTallies nD τ sig Unit) (W : Waits sig Unit) :
    iprop(records m K ∗ xlP c k fullShare.right (XL m c) ∗ pxP (peer c) k fn
        ∗ owes (c : Thread nD τ) (O + tallyAt (recvCell (peer c) k) () N) W
        ∗ dutyTok ER (sendCell c k) 0 () ∗ dutyTok ER (recvCell (peer c) k) 0 ())
      ⊢ iprop(((cred (tallyAt (sendCell c k) () N) ∗ owes (c : Thread nD τ) O W) -∗ wpc c (kont ⟨⟩) Q)
          -∗ wpc c (.op (.enqueueDma src (.remote (Dev.tc n : Thread nD τ) dst (.dma sS) hsc) (.dma rS) h1 h2 h3) kont) Q) := by
  subst hsrc hdst hsS hrS hn
  have hN : (pxM k).view.amount (.dma (recvS k)) = N := rfl
  have ha₁ : (sched m).amount (sendCell c k) 0 () = N := amount_eq m c (sI k) 0 ()
  have ha₂ : (sched m).amount (recvCell (peer c) k) 0 () = N := amount_eq m (peer c) (rI k) 0 ()
  have hp₁ : (sched m).payload (sendCell c k) 0 () = xlP c k fullShare.right (XL m c) := payload_eq m c (sI k) 0 ()
  have hp₂ : (sched m).payload (recvCell (peer c) k) 0 () = pxP (peer c) k (XL m c) := by
    have h : (sched m).payload (recvCell (peer c) k) 0 () = recvPay m (peer c) k := payload_eq m (peer c) (rI k) 0 ()
    rw [h]; unfold recvPay; rw [peer_peer]
  have hl : pxP (peer c) k ((pxM k).view.write (Elt F) fn ((xlM k).view.read (Elt F) (XL m c)) Finset.univ) = pxP (peer c) k (XL m c) :=
    pxP_congr (peer c) k fun j => land_chunk k fn (XL m c) j
  rw [← hl] at hp₂
  have hS : (sched m).duties (sendCell c k) 0 = {()} := duties_on m c (sI k) hk
  have hV : (sched m).duties (recvCell (peer c) k) 0 = {()} := duties_on m (peer c) (rI k) hk
  unfold xlP at hp₁ ⊢
  unfold pxP at hp₂ ⊢
  iintro ⟨#HR, Hs, Hd, HO, HtS, HtV⟩
  iapply (Rounds.wp_send_pointsTo (src := xlM k) (dst := pxM k) (c' := (Dev.tc (peer c) : Thread nD τ)) (sS := .dma (sendS k)) (sem := .dma (recvS k)) 𝒱₀ ER (sched m) (c : Thread nD τ) none (κ₁ := K (c, sI k)) (κ₂ := K (peer c, rI k))
    (r₁ := 0) (r₂ := 0) (d₁ := ()) (d₂ := ()) (fs := XL m c) (fd := fn)
    (by rw [hS]; exact Finset.mem_singleton_self _) (by rw [hV]; exact Finset.mem_singleton_self _)
    () () N hN ha₁ ha₂ O rfl (W := W) (Entails.of_eq hp₁.symm) (Entails.of_eq hp₂.symm)) $$ [Hs Hd HO HtS HtV]
  isplitr; · iapply (inv_at m K c (sI k)); iexact HR
  isplitr; · iapply (inv_at m K (peer c) (rI k)); iexact HR
  isplitl [Hs]; · iexact Hs
  isplitl [Hd]; · iexact Hd
  isplitl [HO]; · iexact HO
  isplitl [HtS]; · iexact HtS
  isplitr; · iapply (reached_at m K c (sI k)); iexact HR
  isplitl [HtV]; · iexact HtV
  iapply (reached_at m K (peer c) (rI k)); iexact HR

/-- A chunk that is sent. -/
theorem wp_send (k : Fin 16) {a b : ℕ} (ha : k.val = a) (hb : k.val + 1 = b) (hk : Act k) {off : Fin 2 → ℕ} (hoff : off = ![64 * k.val, 0]) {inb inb'}
    {hl : (Memref.whole cc0_scratch1 : Memref sig .tc .vmem S1024x512 .bf16).view.LoadsAt (Rect.unit (s := S1024x512) off S64x512.size inb).toLoadRect}
    {w : Vec F S64x512 .bf16} (hw : w = chunkVal k (rank m c) (xsv m c))
    {hx : ((Memref.whole cc0_scratch1 : Memref sig .tc .vmem S1024x512 .bf16).access (Rect.unit (s := S1024x512) off S64x512.size inb')).Stores Finset.univ} {hm}
    {src dst : Memref sig .tc .vmem S64x512 .bf16} (hsrc : src = xlM k) (hdst : dst = pxM k)
    {sS rS : DmaSem sig} (hsS : sS = sendS k) (hrS : rS = recvS k) {n : Dev nD} (hn : n = peer c)
    {hsc : dst.view.ref.isScScratch = false} {h1 : src.view.WordExact} {h2 : dst.view.WordExact}
    {h3 : DmaTarget.Typed .vmem (.dma rS) (.remote (Dev.tc n : Thread nD τ) dst (.dma sS) hsc)}
    {kont : PUnit → Prog (TpuEff nD τ sig (Elt F) Λ₀ .tc) α} :
    St m K c a ⊢ iprop((St m K c b -∗ wpc c (kont ⟨⟩) Q)
      -∗ wpc c (.op (.load (Memref.whole cc0_scratch1 : Memref sig .tc .vmem S1024x512 .bf16) (Rect.unit (s := S1024x512) off S64x512.size inb).toLoadRect hl)
          fun _ => .op (.store (Memref.whole cc0_scratch1 : Memref sig .tc .vmem S1024x512 .bf16) (Rect.unit (s := S1024x512) off S64x512.size inb') w Finset.univ hx hm) fun _ =>
            .op (.enqueueDma src (.remote (Dev.tc n : Thread nD τ) dst (.dma sS) hsc) (.dma rS) h1 h2 h3) kont) Q) := by
  subst ha hb
  unfold St
  rw [upTo_open, upTo_close, Osend_step c k hk]
  unfold sTodo sDone
  rw [if_pos hk, if_pos hk]
  iintro ⟨#HR, ⟨⟨⟨%f, Hc⟩, ⟨%fn, Hp⟩, HtS, HtV⟩, HU⟩, Hx, ⟨%W, HO⟩⟩ HK
  iapply (wp_sort m c k hoff hw f) $$ Hc; iintro Hc
  ihave Hc := (xlP_split c k (XL m c)).1 $$ Hc
  icases Hc with ⟨Hl, Hr⟩
  iapply (wp_give m K c k hk hsrc hdst hsS hrS hn fn (Osend c (k.val + 1)) W) $$ [Hr Hp HO HtS HtV]
  · isplitr; · iexact HR
    isplitl [Hr]; · iexact Hr
    isplitl [Hp]; · iexact Hp
    isplitl [HO]; · iexact HO
    isplitl [HtS] <;> iassumption
  iintro ⟨Hcr, HO⟩
  iapply HK
  isplitr; · iexact HR
  isplitl [Hl Hcr HU]
  · isplitl [Hl Hcr]
    · isplitl [Hl] <;> iassumption
    · iexact HU
  isplitl [Hx]; · iexact Hx
  iexists W; iexact HO

end Steps

end Cert.Exchange

end
-- ==== Proof.Sort.lean ====
/-
# The parts of the body that sort and send chunks 1 to 14
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The test before chunk `w / 64`: with 512 rows to give, on below 512 and off from there. -/
theorem gate_on {w : BitVec 32} (h : BitVec.slt w 512#32 = true) : (Scalar.cmpi .ne (Scalar.extui (Scalar.cmpi .sgt 512#32 w) : BitVec 32) 0#32 = 1#1) = True := by
  have : Scalar.cmpi .sgt 512#32 w = 1#1 := by simp only [Scalar.cmpi, IntOp.cmpi, h]; rfl
  rw [this]; decide
theorem gate_off {w : BitVec 32} (h : BitVec.slt w 512#32 = false) : (Scalar.cmpi .ne (Scalar.extui (Scalar.cmpi .sgt 512#32 w) : BitVec 32) 0#32 = 1#1) = False := by
  have : Scalar.cmpi .sgt 512#32 w = 0#1 := by simp only [Scalar.cmpi, IntOp.cmpi, h]; rfl
  rw [this]; decide

/-- A device number in its printed closed form is the peer's. -/
theorem at_peer {c : Dev nD} {n : ℕ} {hn : n < nD} (h : n = (8 * (c.val / 8) + (c.val % 4) + 4) - 4 * ((c.val / 4) % 2)) : (⟨n, hn⟩ : Dev nD) = peer c := by
  subst h; revert hn; revert c; decide +kernel

/-- Row numbers within a chunk. -/
abbrev rows64 : IVec S64x1024 32 := iota .tc S64x1024 32 [0] iota_S64x1024_d0_w32

section Parts
variable (K : Dev nD × CI → ℕ) (c : Dev nD)

theorem wpc_ret {α : Type} (a : α) {Q : α → sProp (MT nD τ sig Unit (Elt F) ℕ UU ℕ)} : Q a ⊢ wpc c (.ret a) Q := by
  unfold wpc; rw [wp_ret]; iintro H; imodintro; iexact H

/-- Chunks 1 and 2. -/
theorem part3 (v5 v8 v9 : BitVec 32) (Q : _ → sProp 𝕄) :
    iprop(St m K c 1 ∗ (St m K c 3 -∗ Q ⟨rows64, k0_pay10⟩))
      ⊢ wpc c (k0_part3 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 c v5 v8 v9 512#32 (rank m c) rows64) Q := by
  rw [k0_part3_eq_skeleton]; unfold k0_part3_skel
  simp (decide := true) only [Prog.lift, Prog.bind_op, Prog.bind_ret, Prog.pure_eq_ret, gate_on, gate_off, if_true, if_false]
  iintro ⟨H, HQ⟩
  iapply (wp_load_xs m K c 1) $$ H; iintro H
  iapply (wp_send m K c 1 (a := 1) (b := 2) rfl rfl (by decide) (off := ![64, 0]) rfl rfl rfl rfl rfl rfl (at_peer (k0_dev3_eq c))) $$ H; iintro H
  iapply (wp_load_xs m K c 2) $$ H; iintro H
  iapply (wp_send m K c 2 (a := 2) (b := 3) rfl rfl (by decide) (off := ![128, 0]) rfl rfl rfl rfl rfl rfl (at_peer (k0_dev4_eq c))) $$ H; iintro H
  iapply (wpc_ret c); iapply HQ; iexact H

/-- Chunks 3 and 4. -/
theorem part4 (v5 v8 v9 : BitVec 32) (Q : _ → sProp 𝕄) :
    iprop(St m K c 3 ∗ (St m K c 5 -∗ Q ⟨k0_pay13, k0_pay14 (rank m c)⟩))
      ⊢ wpc c (k0_part4 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 c v5 v8 v9 512#32 (rank m c) rows64 k0_pay10) Q := by
  rw [k0_part4_eq_skeleton]; unfold k0_part4_skel
  simp (decide := true) only [Prog.lift, Prog.bind_op, Prog.bind_ret, Prog.pure_eq_ret, gate_on, gate_off, if_true, if_false]
  iintro ⟨H, HQ⟩
  iapply (wp_load_xs m K c 3) $$ H; iintro H
  iapply (wp_send m K c 3 (a := 3) (b := 4) rfl rfl (by decide) (off := ![192, 0]) rfl rfl rfl rfl rfl rfl (at_peer (k0_dev5_eq c))) $$ H; iintro H
  iapply (wp_load_xs m K c 4) $$ H; iintro H
  iapply (wp_send m K c 4 (a := 4) (b := 5) rfl rfl (by decide) (off := ![256, 0]) rfl rfl rfl rfl rfl rfl (at_peer (k0_dev6_eq c))) $$ H; iintro H
  iapply (wpc_ret c); iapply HQ; iexact H

/-- Chunks 5 and 6. -/
theorem part5 (v5 v8 v9 : BitVec 32) (Q : _ → sProp 𝕄) :
    iprop(St m K c 5 ∗ (St m K c 7 -∗ Q (k0_pay17 (rank m c))))
      ⊢ wpc c (k0_part5 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 c v5 v8 v9 512#32 (rank m c) k0_pay13 (k0_pay14 (rank m c))) Q := by
  rw [k0_part5_eq_skeleton]; unfold k0_part5_skel
  simp (decide := true) only [Prog.lift, Prog.bind_op, Prog.bind_ret, Prog.pure_eq_ret, gate_on, gate_off, if_true, if_false]
  iintro ⟨H, HQ⟩
  iapply (wp_load_xs m K c 5) $$ H; iintro H
  iapply (wp_send m K c 5 (a := 5) (b := 6) rfl rfl (by decide) (off := ![320, 0]) rfl rfl rfl rfl rfl rfl (at_peer (k0_dev7_eq c))) $$ H; iintro H
  iapply (wp_load_xs m K c 6) $$ H; iintro H
  iapply (wp_send m K c 6 (a := 6) (b := 7) rfl rfl (by decide) (off := ![384, 0]) rfl rfl rfl rfl rfl rfl (at_peer (k0_dev8_eq c))) $$ H; iintro H
  iapply (wpc_ret c); iapply HQ; iexact H

/-- Chunks 7 and 8. -/
theorem part6 (v5 v8 v9 : BitVec 32) (Q : _ → sProp 𝕄) :
    iprop(St m K c 7 ∗ (St m K c 9 -∗ Q (k0_pay20 (F := F) (rank m c))))
      ⊢ wpc c (k0_part6 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 c v5 v8 v9 512#32 (rank m c) (k0_pay17 (rank m c))) Q := by
  rw [k0_part6_eq_skeleton]; unfold k0_part6_skel
  simp (decide := true) only [Prog.lift, Prog.bind_op, Prog.bind_ret, Prog.pure_eq_ret, gate_on, gate_off, if_true, if_false]
  iintro ⟨H, HQ⟩
  iapply (wp_load_xs m K c 7) $$ H; iintro H
  iapply (wp_send m K c 7 (a := 7) (b := 8) rfl rfl (by decide) (off := ![448, 0]) rfl rfl rfl rfl rfl rfl (at_peer (k0_dev9_eq c))) $$ H; iintro H
  iapply (wp_load_xs m K c 8) $$ H; iintro H
  iapply (wp_keep m K c 8 (a := 8) (b := 9) rfl rfl (by decide) (off := ![512, 0]) rfl rfl) $$ H; iintro H
  iapply (wpc_ret c); iapply HQ; iexact H

/-- Chunks 9 and 10. -/
theorem part7 (v5 v8 v9 : BitVec 32) (Q : _ → sProp 𝕄) :
    iprop(St m K c 9 ∗ (St m K c 11 -∗ Q (k0_pay23 (F := F) (rank m c))))
      ⊢ wpc c (k0_part7 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 c v5 v8 v9 512#32 (rank m c) (k0_pay20 (F := F) (rank m c))) Q := by
  rw [k0_part7_eq_skeleton]; unfold k0_part7_skel
  simp (decide := true) only [Prog.lift, Prog.bind_op, Prog.bind_ret, Prog.pure_eq_ret, gate_on, gate_off, if_true, if_false]
  iintro ⟨H, HQ⟩
  iapply (wp_load_xs m K c 9) $$ H; iintro H
  iapply (wp_keep m K c 9 (a := 9) (b := 10) rfl rfl (by decide) (off := ![576, 0]) rfl rfl) $$ H; iintro H
  iapply (wp_load_xs m K c 10) $$ H; iintro H
  iapply (wp_keep m K c 10 (a := 10) (b := 11) rfl rfl (by decide) (off := ![640, 0]) rfl rfl) $$ H; iintro H
  iapply (wpc_ret c); iapply HQ; iexact H

/-- Chunks 11 and 12. -/
theorem part8 (v5 v8 v9 : BitVec 32) (Q : _ → sProp 𝕄) :
    iprop(St m K c 11 ∗ (St m K c 13 -∗ Q ⟨k0_pay26 (F := F) (rank m c), xsv m c, constant S64x512 .f32 0x00000000#32⟩))
      ⊢ wpc c (k0_part8 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 c v5 v8 v9 512#32 (rank m c) (k0_pay23 (F := F) (rank m c))) Q := by
  rw [k0_part8_eq_skeleton]; unfold k0_part8_skel
  simp (decide := true) only [Prog.lift, Prog.bind_op, Prog.bind_ret, Prog.pure_eq_ret, gate_on, gate_off, if_true, if_false]
  iintro ⟨H, HQ⟩
  iapply (wp_load_xs m K c 11) $$ H; iintro H
  iapply (wp_keep m K c 11 (a := 11) (b := 12) rfl rfl (by decide) (off := ![704, 0]) rfl rfl) $$ H; iintro H
  iapply (wp_load_xs m K c 12) $$ H; iintro H
  iapply (wp_keep m K c 12 (a := 12) (b := 13) rfl rfl (by decide) (off := ![768, 0]) rfl rfl) $$ H; iintro H
  iapply (wp_load_xs m K c 13) $$ H; iintro H
  iapply (wpc_ret c); iapply HQ; iexact H

/-- Chunks 13 and 14. -/
theorem part9 (v5 v8 v9 : BitVec 32) (Q : _ → sProp 𝕄) :
    iprop(St m K c 13 ∗ (St m K c 15 -∗ Q (k0_pay29 (rank m c) (xsv m c))))
      ⊢ wpc c (k0_part9 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 c v5 v8 v9 512#32 (rank m c) (k0_pay26 (F := F) (rank m c)) (xsv m c) (constant S64x512 .f32 0x00000000#32)) Q := by
  rw [k0_part9_eq_skeleton]; unfold k0_part9_skel
  simp (decide := true) only [Prog.lift, Prog.bind_op, Prog.bind_ret, Prog.pure_eq_ret, gate_on, gate_off, if_true, if_false]
  iintro ⟨H, HQ⟩
  iapply (wp_keep m K c 13 (a := 13) (b := 14) rfl rfl (by decide) (off := ![832, 0]) rfl rfl) $$ H; iintro H
  iapply (wp_load_xs m K c 14) $$ H; iintro H
  iapply (wp_keep m K c 14 (a := 14) (b := 15) rfl rfl (by decide) (off := ![896, 0]) rfl rfl) $$ H; iintro H
  iapply (wp_load_xs m K c 15) $$ H; iintro H
  iapply (wpc_ret c); iapply HQ; iexact H

end Parts

end Cert.Exchange

end
-- ==== Proof.Waits.lean ====
/-
# Waiting for the chunks

The receive semaphores and the send semaphores are waited on in the same way: chunk by chunk, nothing owed any more. Each
wait hands over the chunk's payload; after the last, all sixteen cells close.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def wTodo (f : Fin 16 → CI) (c : Dev nD) (k : Fin 16) : sProp 𝕄 :=
  if Act k then iprop(atPos ER (kcell (c, f k)) 0 ∅ 0 ∗ cred (tallyAt (kcell (c, f k)) () N)) else atPos ER (kcell (c, f k)) 0 ∅ 0
def wDone (f : Fin 16 → CI) (c : Dev nD) (k : Fin 16) : sProp 𝕄 :=
  if Act k then iprop(atPos ER (kcell (c, f k)) (0 + 1) ∅ 0 ∗ pay m c (f k)) else atPos ER (kcell (c, f k)) 0 ∅ 0

/-- The chunks below `n` waited for. -/
def WSt (K : Dev nD × CI → ℕ) (f : Fin 16 → CI) (c : Dev nD) (n : ℕ) : sProp 𝕄 :=
  iprop(records m K ∗ upTo n (wDone m f c) (wTodo f c) ∗ ∃ W, owes (c : Thread nD τ) 0 W)

/-- The two rows of semaphores waited on: of the sends, of the receives. -/
def IsRow (f : Fin 16 → CI) : Prop := f = sI ∨ f = rI
theorem row_duty {f} (hf : IsRow f) (k : Fin 16) : hasDuty (f k) ↔ Act k := by rcases hf with rfl | rfl <;> exact Iff.rfl
theorem row_amt {f} (hf : IsRow f) (k : Fin 16) : amt (f k) = N := by rcases hf with rfl | rfl <;> rfl

theorem WSt_skip (K : Dev nD × CI → ℕ) (f : Fin 16 → CI) (c : Dev nD) (n n' : ℕ) (hn : 8 ≤ n) (hn' : 8 ≤ n') : WSt m K f c n = WSt m K f c n' := by
  unfold WSt; rw [upTo_skip n n' hn hn' _ _ fun k hk => by unfold wDone wTodo; rw [if_neg hk, if_neg hk]]

section Steps
variable (K : Dev nD × CI → ℕ) (c : Dev nD) {α : Type} {Q : α → sProp (MT nD τ sig Unit (Elt F) ℕ UU ℕ)}

/-- The wait for chunk `k`. -/
theorem wp_await {f : Fin 16 → CI} (hf : IsRow f) (k : Fin 16) {a b : ℕ} (ha : k.val = a) (hb : k.val + 1 = b) (hk : Act k) {sm : DmaSem sig} (hsm : SemLoc.dma sm = csem (f k))
    {src dst : Memref sig .tc .vmem S64x512 .bf16} (hd : dst.view.dmaCredit = N) {h1 : src.view.WordExact} {h2 : dst.view.WordExact}
    {kont : PUnit → Prog (TpuEff nD τ sig (Elt F) Λ₀ .tc) α} :
    WSt m K f c a ⊢ iprop((WSt m K f c b -∗ wpc c (kont ⟨⟩) Q)
      -∗ wpc c (.op (.waitDma2 sm src dst h1 h2) kont) Q) := by
  subst ha hb
  have hD : (sched m).duties ((c : Thread nD τ), SemLoc.dma sm) 0 = {()} := by rw [hsm]; exact duties_on m c (f k) ((row_duty hf k).2 hk)
  have hE : (sched m).expect ((c : Thread nD τ), SemLoc.dma sm) 0 = N := by rw [hsm]; exact (expect_on m c (f k) ((row_duty hf k).2 hk)).trans (row_amt hf k)
  have hR := rest_on m c (f k) ((row_duty hf k).2 hk)
  unfold WSt
  rw [upTo_open, upTo_close]
  unfold wTodo wDone
  rw [if_pos hk, if_pos hk]
  rw [show kcell (c, f k) = ((c : Thread nD τ), SemLoc.dma sm) from by rw [hsm]] at hR ⊢
  iintro ⟨#HR, ⟨⟨Hat, Hcr⟩, HU⟩, ⟨%W, HO⟩⟩ HK
  iapply (Rounds.wp_wait_rest_token 𝒱₀ ER (sched m) (c : Thread nD τ) none (κ := K (c, f k)) (sm := SemLoc.dma sm) (k' := dst.view.dmaCredit)
      (wpE_waitDma2_eq 𝒱₀ (c : Thread nD τ) none Set.univ) (Set.mem_univ _) () (O := 0) (W := W) (R := 0) (m := 0) (T := ∅)
      (by rw [Nat.zero_add, hd, hE])) $$ [Hcr HO Hat]
  · isplitr
    · rw [← show kcell (c, f k) = ((c : Thread nD τ), SemLoc.dma sm) from by rw [hsm]]
      iapply (inv_at m K c (f k)); iexact HR
    isplitl [Hcr]; · rw [hd]; iexact Hcr
    isplitl [HO]; · iexact HO
    isplitr; · rw [MayWait_zero]; iempintro
    iexact Hat
  iintro ⟨HO, Hat, -, Hpay⟩
  ihave Hp := (Entails.of_eq hR) $$ Hpay
  iapply HK
  isplitr; · iexact HR
  isplitl [Hat Hp HU]
  · isplitl [Hat Hp]
    · isplitl [Hat] <;> iassumption
    · iexact HU
  iexists _; iexact HO

end Steps

/-- All sixteen waited for: the cells close. -/
theorem close_row (K : Dev nD × CI → ℕ) (c : Dev nD) {f : Fin 16 → CI} (hf : IsRow f) :
    iprop(records m K ∗ upTo 16 (wDone m f c) (wTodo f c))
      ⊢ |={Set.univ}=> iprop((bigSep Finset.univ fun k : Fin 16 => semVal (kcell (c, f k)) 0) ∗ (bigSep Finset.univ fun k : Fin 16 => if Act k then pay m c (f k) else iprop(emp)) : sProp 𝕄) := by
  rw [upTo_all, ← bigSep_sep']
  refine (sep_mono_left (BI.bigSep_of_persistent (Finset.univ : Finset (Fin 16)) (records m K))).trans ?_
  rw [← bigSep_sep']
  refine (bigSep_mono fun k _ => ?_).trans (bigSep_fupd _ _)
  unfold wDone
  by_cases hk : Act k
  · rw [if_pos hk, if_pos hk]
    show iprop(records m K ∗ atPos ER (kcell (c, f k)) (0 + 1) ∅ 0 ∗ pay m c (f k)) ⊢ |={Set.univ}=> iprop(semVal (kcell (c, f k)) 0 ∗ pay m c (f k))
    iintro ⟨#HR, Hat, Hp⟩
    imod (Rounds.cell_close ER (sched m) (Set.mem_univ (K (c, f k))) (fun h => h) (R := 0 + 1) (duties_later m (kcell (c, f k)))) $$ [Hat] with Hz
    · isplitr; · iapply (inv_at m K c (f k)); iexact HR
      iexact Hat
    imodintro
    isplitl [Hz] <;> iassumption
  · rw [if_neg hk, if_neg hk]
    show iprop(records m K ∗ atPos ER (kcell (c, f k)) 0 ∅ 0) ⊢ |={Set.univ}=> iprop(semVal (kcell (c, f k)) 0 ∗ emp)
    iintro ⟨#HR, Hat⟩
    imod (Rounds.cell_close ER (sched m) (Set.mem_univ (K (c, f k))) (fun h => h) (R := 0) (fun r _ => duties_off m c (f k) (fun h => hk ((row_duty hf k).1 h)) r)) $$ [Hat] with Hz
    · isplitr; · iapply (inv_at m K c (f k)); iexact HR
      iexact Hat
    imodintro
    isplitl [Hz]; · iexact Hz
    iempintro

end Cert.Exchange

end
-- ==== Proof.Finish.lean ====
/-
# The parts of the body after the sort: the waits and the assembly of the result
-/
module

public import proofs.«01_k».proof.Proof.Sort
public import proofs.«01_k».proof.Proof.Waits
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The device's coordinate along the exchange. -/
def place (c : Dev nD) : BitVec 32 := Scalar.remsi (Scalar.divsi (Dev.word c) 4#32) 2#32
/-- How far both halves are rotated. -/
def shift (c : Dev nD) : BitVec 32 := Scalar.muli (Scalar.subi 1#32 (place c)) (nSelf m c)
abbrev rows1024 : IVec S1024x1 32 := iota .tc S1024x1 32 [0] iota_S1024x1_d0_w32
/-- The device's own part of its result. -/
def mine (c : Dev nD) : FVec F S1024x512 .bf16 := k0_pay31 (place c) (nSelf m c) 512#32 (XL m c)
/-- The device's result. -/
def outAt (c : Dev nD) : Vec F S1024x512 .bf16 := k0_pay32 512#32 (shift m c) rows1024 (mine m c) (XL m (peer c))

/-! ## Between the phases -/

def atRow (f : Fin 16 → CI) (c : Dev nD) : sProp 𝕄 := bigSep Finset.univ fun k : Fin 16 => atPos ER (kcell (c, f k)) 0 ∅ 0
def credRow (f : Fin 16 → CI) (c : Dev nD) : sProp 𝕄 :=
  bigSep Finset.univ fun k : Fin 16 => if Act k then cred (tallyAt (kcell (c, f k)) () N) else iprop(emp)
/-- The half of the unsent chunks that a copy would have read. -/
def xlRight (c : Dev nD) : sProp 𝕄 :=
  bigSep Finset.univ fun k : Fin 16 => if Act k then iprop(emp) else xlP c k fullShare.right (XL m c)
/-- The device's landing chunks that nothing lands in. -/
def pxRest (c : Dev nD) (f : Vec F S1024x512 .bf16) : sProp 𝕄 :=
  bigSep Finset.univ fun k : Fin 16 => if Act k then iprop(emp) else pxP c k f
def xlLeft (c : Dev nD) : sProp 𝕄 := ((c : Thread nD τ).loc cc0_scratch1) ↦{fullShare.left} XL m c
def someOwes (c : Dev nD) : sProp 𝕄 := iprop(∃ W, owes (c : Thread nD τ) 0 W)

theorem row_begin (f : Fin 16 → CI) (c : Dev nD) : iprop(atRow f c ∗ credRow f c) ⊢ (upTo 0 (wDone m f c) (wTodo f c) : sProp 𝕄) := by
  rw [upTo_none]; unfold atRow credRow; rw [← bigSep_sep']
  refine bigSep_mono fun k _ => ?_
  unfold wTodo
  by_cases hk : Act k
  · rw [if_pos hk, if_pos hk]; exact BI.Entails.refl _
  · rw [if_neg hk, if_neg hk]
    show iprop(atPos ER (kcell (c, f k)) 0 ∅ 0 ∗ emp) ⊢ atPos ER (kcell (c, f k)) 0 ∅ 0
    iintro ⟨H, -⟩; iexact H

/-- The sort and the copies done: the whole sorted rows to read, the credits of the copies, the rest. -/
theorem St_end (K : Dev nD × CI → ℕ) (c : Dev nD) :
    St m K c 16 ⊢ iprop(records m K ∗ xlLeft m c ∗ credRow sI c ∗ xlRight m c ∗ xsPts m c ∗ someOwes c) := by
  unfold St xlLeft credRow xlRight someOwes
  rw [upTo_all, Osend_done c 16 (by decide), xl_pieces]
  have h : (bigSep Finset.univ (sDone m c) : sProp 𝕄) ⊢ iprop((bigSep Finset.univ fun k => xlP c k fullShare.left (XL m c))
      ∗ (bigSep Finset.univ fun k : Fin 16 => if Act k then cred (tallyAt (kcell (c, sI k)) () N) else iprop(emp))
      ∗ (bigSep Finset.univ fun k : Fin 16 => if Act k then iprop(emp) else xlP c k fullShare.right (XL m c))) := by
    rw [← bigSep_sep', ← bigSep_sep']
    refine bigSep_mono fun k _ => ?_
    unfold sDone
    by_cases hk : Act k
    · rw [if_pos hk, if_pos hk, if_pos hk]
      show iprop(xlP c k fullShare.left (XL m c) ∗ cred (tallyAt (sendCell c k) () N)) ⊢ iprop(xlP c k fullShare.left (XL m c) ∗ cred (tallyAt (kcell (c, sI k)) () N) ∗ emp)
      iintro ⟨H1, H2⟩
      isplitl [H1]; · iexact H1
      isplitl [H2]; · iexact H2
      iempintro
    · rw [if_neg hk, if_neg hk, if_neg hk]
      show iprop(xlP c k fullShare.left (XL m c) ∗ xlP c k fullShare.right (XL m c)) ⊢ iprop(xlP c k fullShare.left (XL m c) ∗ emp ∗ xlP c k fullShare.right (XL m c))
      iintro ⟨H1, H2⟩
      isplitl [H1]; · iexact H1
      isplitr; · iempintro
      iexact H2
  iintro ⟨#HR, HU, Hx, HO⟩
  ihave H := h $$ HU
  icases H with ⟨H1, H2, H3⟩
  isplitr; · iexact HR
  isplitl [H1]; · iexact H1
  isplitl [H2]; · iexact H2
  isplitl [H3]; · iexact H3
  isplitl [Hx] <;> iassumption

omit [FloatOps F] in
/-- What landed and what nothing landed in: the whole landing buffer. -/
theorem px_join (c : Dev nD) (g f : Vec F S1024x512 .bf16) :
    iprop((bigSep Finset.univ fun k : Fin 16 => if Act k then pxP c k g else iprop(emp)) ∗ pxRest c f)
      ⊢ (((c : Thread nD τ).loc cc0_scratch2) ↦{fullShare} (fun i => if Act (kOf i) then g i else f i : Vec F S1024x512 .bf16) : sProp 𝕄) := by
  unfold pxRest
  rw [px_pieces, ← bigSep_sep']
  refine bigSep_mono fun k _ => ?_
  by_cases hk : Act k
  · rw [if_pos hk, if_pos hk, pxP_congr c k (f := fun i => if Act (kOf i) then g i else f i) (g := g) fun j => by show (if Act (kOf _) then _ else _) = _; rw [kOf_emb, if_pos hk]]
    show iprop(pxP c k g ∗ emp) ⊢ pxP c k g
    iintro ⟨H, -⟩; iexact H
  · rw [if_neg hk, if_neg hk, pxP_congr c k (f := fun i => if Act (kOf i) then g i else f i) (g := f) fun j => by show (if Act (kOf _) then _ else _) = _; rw [kOf_emb, if_neg hk]]
    show iprop(emp ∗ pxP c k f) ⊢ pxP c k f
    iintro ⟨-, H⟩; iexact H

/-- What the copies give back and what was never lent: the whole local buffer. -/
theorem xl_join (c : Dev nD) :
    iprop((bigSep Finset.univ fun k : Fin 16 => if Act k then pay m c (sI k) else iprop(emp)) ∗ xlRight m c ∗ xlLeft m c)
      ⊢ (((c : Thread nD τ).loc cc0_scratch1) ↦{fullShare} XL m c : sProp 𝕄) := by
  unfold xlRight xlLeft
  rw [xl_pieces, xl_pieces, ← bigSep_sep', ← bigSep_sep']
  refine bigSep_mono fun k _ => ?_
  by_cases hk : Act k
  · rw [if_pos hk, if_pos hk]
    show iprop(xlP c k fullShare.right (XL m c) ∗ emp ∗ xlP c k fullShare.left (XL m c)) ⊢ xlP c k fullShare (XL m c)
    iintro ⟨H1, -, H2⟩
    iapply (xlP_split c k (XL m c)).2
    isplitl [H2] <;> iassumption
  · rw [if_neg hk, if_neg hk]
    show iprop(emp ∗ xlP c k fullShare.right (XL m c) ∗ xlP c k fullShare.left (XL m c)) ⊢ xlP c k fullShare (XL m c)
    iintro ⟨-, H1, H2⟩
    iapply (xlP_split c k (XL m c)).2
    isplitl [H2] <;> iassumption

/-- A row's place in a column. -/
def colIdx (i : S1024x512.Idx) : S1024x1.Idx := fun a => match a with
  | ⟨0, _⟩ => ⟨(i 0 : ℕ), (i 0).isLt⟩
  | ⟨1, _⟩ => ⟨0, Nat.one_pos⟩

/-- The mask of the first 512 rows. -/
theorem low_mask (i : S1024x512.Idx) :
    broadcastTo S1024x512 (shapeCast S1024x1 (cmpi .slt rows1024 (broadcast S1024x1 512#32)) shapeCasts_S1024x1_S1024x1) broadcasts_S1024x1_S1024x512 i
      = if (i 0 : ℕ) < 512 then 1#1 else 0#1 := by
  rw [shapeCast_self, broadcastTo_apply _ _ i (colIdx i)
    (fun a => match a with | ⟨0, _⟩ => rfl | ⟨1, _⟩ => rfl)]
  have h : (i 0 : ℕ) < 1024 := (i 0).isLt
  have hr : rows1024 (colIdx i) = BitVec.ofNat 32 (i 0 : ℕ) :=
    congrArg (BitVec.ofNat 32) (show 0 * S1024x1.size 0 + (i 0 : ℕ) = (i 0 : ℕ) by rw [Nat.zero_mul, Nat.zero_add])
  show BitVec.ofBool (BitVec.slt (rows1024 (colIdx i)) 512#32) = _
  rw [hr]
  generalize (i 0 : ℕ) = r at h ⊢
  rw [BitVec.slt_eq_decide, BitVec.toInt_eq_toNat_of_lt (by rw [BitVec.toNat_ofNat]; omega), BitVec.toNat_ofNat, Nat.mod_eq_of_lt (by omega)]
  by_cases hr : r < 512
  · rw [if_pos hr, decide_eq_true (by show (r : ℤ) < 512; omega)]; rfl
  · rw [if_neg hr, decide_eq_false (by show ¬ (r : ℤ) < 512; omega)]; rfl

/-- Only the first 512 landed rows are read. -/
theorem select_low (f g z : Vec F S1024x512 .bf16) (h : ∀ i : S1024x512.Idx, (i 0 : ℕ) < 512 → f i = g i) :
    (select (broadcastTo S1024x512 (shapeCast S1024x1 (cmpi .slt rows1024 (broadcast S1024x1 512#32)) shapeCasts_S1024x1_S1024x1) broadcasts_S1024x1_S1024x512) f z : Vec F S1024x512 .bf16)
      = select (broadcastTo S1024x512 (shapeCast S1024x1 (cmpi .slt rows1024 (broadcast S1024x1 512#32)) shapeCasts_S1024x1_S1024x1) broadcasts_S1024x1_S1024x512) g z := by
  funext i
  unfold select Scalar.select
  rw [low_mask]
  by_cases hi : (i 0 : ℕ) < 512
  · rw [h i hi]
  · rw [if_neg hi]; rfl

theorem out_congr (v329 : BitVec 32) (v338 f g : Vec F S1024x512 .bf16) (h : ∀ i : S1024x512.Idx, (i 0 : ℕ) < 512 → f i = g i) :
    k0_pay32 512#32 v329 rows1024 v338 f = k0_pay32 512#32 v329 rows1024 v338 g := by
  unfold k0_pay32
  have := select_low f g (broadcast S1024x512 (Scalar.ofBits .bf16 0x0000#16)) h
  dsimp only at this ⊢
  rw [this]

omit [FloatOps F] in
theorem read_xl (f : Vec F S1024x512 .bf16) {inb} : (Memref.whole cc0_scratch1 : Memref sig .tc .vmem S1024x512 .bf16).view.readAt (Elt F)
    (Rect.unit (s := S1024x512) ![0, 0] S1024x512.size inb).toLoadRect f = f :=
  Memref.readAt_unit_zero (Elt F) cc0_scratch1 hz2 _ _
omit [FloatOps F] in
theorem read_px (f : Vec F S1024x512 .bf16) {inb} : (Memref.whole cc0_scratch2 : Memref sig .tc .vmem S1024x512 .bf16).view.readAt (Elt F)
    (Rect.unit (s := S1024x512) ![0, 0] S1024x512.size inb).toLoadRect f = f :=
  Memref.readAt_unit_zero (Elt F) cc0_scratch2 hz2 _ _
omit [FloatOps F] in
theorem write_out (f w : Vec F S1024x512 .bf16) {inb} : ((Memref.whole cc0_stg0_0 : Memref sig .tc .vmem S1024x512 .bf16).access
    (Rect.unit (s := S1024x512) ![0, 0] S1024x512.size inb)).write (Elt F) f w Finset.univ = w :=
  Memref.write_access_unit_zero_univ (Elt F) cc0_stg0_0 hz2 _ f w

section Parts
variable (K : Dev nD × CI → ℕ) (c : Dev nD)

/-- The test before chunk `w / 64`, as the value it is. -/
abbrev gate (w : BitVec 32) : BitVec 1 := Scalar.cmpi .ne (Scalar.extui (Scalar.cmpi .sgt 512#32 w) : BitVec 32) 0#32

/-- The last chunk, the device's own part, and the first three arrivals. -/
theorem part10 (v2 v5 v8 v9 v41 : BitVec 32) (Q : _ → sProp 𝕄) :
    iprop(St m K c 15 ∗ upTo 0 (wDone m rI c) (wTodo rI c) ∗ ((WSt m K rI c 3 ∗ xlLeft m c ∗ credRow sI c ∗ xlRight m c ∗ xsPts m c) -∗ Q ⟨Scalar.muli (Scalar.subi 1#32 v2) v41, rows1024, k0_pay31 v2 v41 512#32 (XL m c), gate 192#32⟩))
      ⊢ wpc c (k0_part10 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 c v2 v5 v8 v9 v41 512#32 (k0_pay29 (rank m c) (xsv m c))) Q := by
  rw [k0_part10_eq_skeleton]; unfold k0_part10_skel
  simp (decide := true) only [Prog.lift, Prog.bind_op, Prog.bind_ret, Prog.pure_eq_ret, gate_on, gate_off, if_true, if_false]
  iintro ⟨H, HV, HQ⟩
  iapply (wp_keep m K c 15 (a := 15) (b := 16) rfl rfl (by decide) (off := ![960, 0]) rfl rfl) $$ H; iintro H
  ihave H := (St_end m K c) $$ H
  icases H with ⟨#HR, Hl, Hcr, Hxr, Hx, HO⟩
  unfold xlLeft someOwes
  iapply (wp_load 𝒱₀ (c : Thread nD τ) none Set.univ (m := (Memref.whole cc0_scratch1 : Memref sig .tc .vmem S1024x512 .bf16)) (Finset.subset_univ _)) $$ Hl; iintro Hl
  rw [read_xl]
  ihave H := (show iprop(records m K ∗ upTo 0 (wDone m rI c) (wTodo rI c) ∗ ∃ W, owes (c : Thread nD τ) 0 W) ⊢ WSt m K rI c 0 from by unfold WSt; exact BI.Entails.refl _) $$ [HV HO]
  · isplitr; · iexact HR
    isplitl [HV] <;> iassumption
  iapply (wp_await m K c (f := rI) (.inr rfl) 0 (a := 0) (b := 1) rfl rfl (by decide) rfl (src := xlM 0) (dst := pxM 0) (N_px 0)) $$ H; iintro H
  iapply (wp_await m K c (f := rI) (.inr rfl) 1 (a := 1) (b := 2) rfl rfl (by decide) rfl (src := xlM 1) (dst := pxM 1) (N_px 1)) $$ H; iintro H
  iapply (wp_await m K c (f := rI) (.inr rfl) 2 (a := 2) (b := 3) rfl rfl (by decide) rfl (src := xlM 2) (dst := pxM 2) (N_px 2)) $$ H; iintro H
  iapply (wpc_ret c); iapply HQ
  isplitl [H]; · iexact H
  isplitl [Hl]; · iexact Hl
  isplitl [Hcr]; · iexact Hcr
  isplitl [Hxr] <;> iassumption

/-- Arrivals 3 to 7. -/
theorem part11 (v5 v8 v9 : BitVec 32) (Q : _ → sProp 𝕄) :
    iprop(WSt m K rI c 3 ∗ (WSt m K rI c 8 -∗ Q (Scalar.extui (Scalar.cmpi .sgt 512#32 704#32))))
      ⊢ wpc c (k0_part11 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 v5 v8 v9 512#32 (gate 192#32)) Q := by
  rw [k0_part11_eq_skeleton]; unfold k0_part11_skel
  simp (decide := true) only [Prog.lift, Prog.bind_op, Prog.bind_ret, Prog.pure_eq_ret, gate_on, gate_off, if_true, if_false]
  iintro ⟨H, HQ⟩
  iapply (wp_await m K c (f := rI) (.inr rfl) 3 (a := 3) (b := 4) rfl rfl (by decide) rfl (src := xlM 3) (dst := pxM 3) (N_px 3)) $$ H; iintro H
  iapply (wp_await m K c (f := rI) (.inr rfl) 4 (a := 4) (b := 5) rfl rfl (by decide) rfl (src := xlM 4) (dst := pxM 4) (N_px 4)) $$ H; iintro H
  iapply (wp_await m K c (f := rI) (.inr rfl) 5 (a := 5) (b := 6) rfl rfl (by decide) rfl (src := xlM 5) (dst := pxM 5) (N_px 5)) $$ H; iintro H
  iapply (wp_await m K c (f := rI) (.inr rfl) 6 (a := 6) (b := 7) rfl rfl (by decide) rfl (src := xlM 6) (dst := pxM 6) (N_px 6)) $$ H; iintro H
  iapply (wp_await m K c (f := rI) (.inr rfl) 7 (a := 7) (b := 8) rfl rfl (by decide) rfl (src := xlM 7) (dst := pxM 7) (N_px 7)) $$ H; iintro H
  iapply (wpc_ret c); iapply HQ; iexact H

/-- The arrived rows read, the result written. -/
theorem part12 (v5 v8 v9 v329 : BitVec 32) (v338 f₀ f₁ : Vec F S1024x512 .bf16) (Q : _ → sProp 𝕄) :
    iprop(WSt m K rI c 8 ∗ pxRest c f₀ ∗ (((c : Thread nD τ).loc cc0_stg0_0) ↦{fullShare} f₁) ∗ ((records m K ∗ (bigSep Finset.univ fun k : Fin 16 => semVal (kcell (c, rI k)) 0) ∗ someOwes c ∗ (∃ f : Vec F S1024x512 .bf16, ((c : Thread nD τ).loc cc0_scratch2) ↦{fullShare} f) ∗ (((c : Thread nD τ).loc cc0_stg0_0) ↦{fullShare} k0_pay32 512#32 v329 rows1024 v338 (XL m (peer c)))) -∗ Q (gate 0#32)))
      ⊢ wpc c (k0_part12 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 v5 v8 v9 512#32 v329 rows1024 v338 (Scalar.extui (Scalar.cmpi .sgt 512#32 704#32))) Q := by
  rw [k0_part12_eq_skeleton]; unfold k0_part12_skel
  simp (decide := true) only [Prog.lift, Prog.bind_op, Prog.bind_ret, Prog.pure_eq_ret, gate_on, gate_off, if_true, if_false]
  rw [WSt_skip m K rI c 8 16 (by decide) (by decide)]
  unfold WSt
  iintro ⟨⟨#HR, HU, HO⟩, Hpx, Hst, HQ⟩
  imod (close_row m K c (f := rI) (.inr rfl)) $$ [HU] with ⟨Hz, Hp⟩
  · isplitr; · iexact HR
    iexact HU
  ihave Hp := (px_join c (XL m (peer c)) f₀) $$ [Hp Hpx]
  · isplitl [Hp]; · iexact Hp
    iexact Hpx
  iapply (wp_load 𝒱₀ (c : Thread nD τ) none Set.univ (m := (Memref.whole cc0_scratch2 : Memref sig .tc .vmem S1024x512 .bf16)) (Finset.subset_univ _)) $$ Hp; iintro Hp
  iapply (wp_load 𝒱₀ (c : Thread nD τ) none Set.univ (m := (Memref.whole cc0_stg0_0 : Memref sig .tc .vmem S1024x512 .bf16)) (Finset.subset_univ _)) $$ Hst; iintro Hst
  iapply (wp_store 𝒱₀ (c : Thread nD τ) none Set.univ (m := (Memref.whole cc0_stg0_0 : Memref sig .tc .vmem S1024x512 .bf16)) (r := Rect.unit (s := S1024x512) ![0, 0] S1024x512.size inb_S1024x512_S1024x512_0_0) (Mk := Finset.univ) (Finset.subset_univ _)) $$ Hst; iintro Hst
  rw [read_px, write_out, out_congr v329 v338 (fun i => if Act (kOf i) then XL m (peer c) i else f₀ i) (XL m (peer c)) fun i hi => if_pos (show (i 0 : ℕ) / 64 < 8 by omega)]
  iapply (wpc_ret c); iapply HQ
  isplitr; · iexact HR
  isplitl [Hz]; · iexact Hz
  isplitl [HO]; · unfold someOwes; iexact HO
  isplitl [Hp]; · iexists _; iexact Hp
  iexact Hst

/-- The copies of chunks 0 to 7 read out. -/
theorem part13 (Q : _ → sProp 𝕄) :
    iprop(WSt m K sI c 0 ∗ (WSt m K sI c 8 -∗ Q (Scalar.extui (Scalar.cmpi .sgt 512#32 512#32))))
      ⊢ wpc c (k0_part13 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 512#32 (gate 0#32)) Q := by
  rw [k0_part13_eq_skeleton]; unfold k0_part13_skel
  simp (decide := true) only [Prog.lift, Prog.bind_op, Prog.bind_ret, Prog.pure_eq_ret, gate_on, gate_off, if_true, if_false]
  iintro ⟨H, HQ⟩
  iapply (wp_await m K c (f := sI) (.inl rfl) 0 (a := 0) (b := 1) rfl rfl (by decide) rfl (src := pxM 0) (dst := xlM 0) (N_xl 0)) $$ H; iintro H
  iapply (wp_await m K c (f := sI) (.inl rfl) 1 (a := 1) (b := 2) rfl rfl (by decide) rfl (src := pxM 1) (dst := xlM 1) (N_xl 1)) $$ H; iintro H
  iapply (wp_await m K c (f := sI) (.inl rfl) 2 (a := 2) (b := 3) rfl rfl (by decide) rfl (src := pxM 2) (dst := xlM 2) (N_xl 2)) $$ H; iintro H
  iapply (wp_await m K c (f := sI) (.inl rfl) 3 (a := 3) (b := 4) rfl rfl (by decide) rfl (src := pxM 3) (dst := xlM 3) (N_xl 3)) $$ H; iintro H
  iapply (wp_await m K c (f := sI) (.inl rfl) 4 (a := 4) (b := 5) rfl rfl (by decide) rfl (src := pxM 4) (dst := xlM 4) (N_xl 4)) $$ H; iintro H
  iapply (wp_await m K c (f := sI) (.inl rfl) 5 (a := 5) (b := 6) rfl rfl (by decide) rfl (src := pxM 5) (dst := xlM 5) (N_xl 5)) $$ H; iintro H
  iapply (wp_await m K c (f := sI) (.inl rfl) 6 (a := 6) (b := 7) rfl rfl (by decide) rfl (src := pxM 6) (dst := xlM 6) (N_xl 6)) $$ H; iintro H
  iapply (wp_await m K c (f := sI) (.inl rfl) 7 (a := 7) (b := 8) rfl rfl (by decide) rfl (src := pxM 7) (dst := xlM 7) (N_xl 7)) $$ H; iintro H
  iapply (wpc_ret c); iapply HQ; iexact H

/-- No copies of chunks 8 to 15 to wait for. -/
theorem part14 (Q : _ → sProp 𝕄) :
    Q (gate 960#32) ⊢ wpc c (k0_part14 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 512#32 (Scalar.extui (Scalar.cmpi .sgt 512#32 512#32))) Q := by
  rw [k0_part14_eq_skeleton]; unfold k0_part14_skel
  simp (decide := true) only [Prog.lift, Prog.bind_op, Prog.bind_ret, Prog.pure_eq_ret, gate_on, gate_off, if_true, if_false]
  exact wpc_ret c _

end Parts

end Cert.Exchange

end
-- ==== Proof.Begin.lean ====
/-
# The first two parts of the body: the arguments copied in, the handshake, the first chunk
-/
module

public import proofs.«01_k».proof.Proof.Finish

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev x6 : Memref sig .tc .vmem S1024x512 .f32 := Memref.whole cc0_scratch3
abbrev x7 : Memref sig .tc .vmem S1024 .i32 := Memref.whole cc0_scratch4
theorem x6_pos : 0 < (x6).view.dmaCredit := View.dmaCredit_pos _ (by decide)
theorem x7_pos : 0 < (x7).view.dmaCredit := View.dmaCredit_pos _ (by decide)

/-- The rows on their way into local memory. -/
def rowsFlight (c : Dev nD) : sProp 𝕄 :=
  Transfers.Flight EC (c : Thread nD τ) (.dma inS0) () (x6).view.dmaCredit
    iprop((((c : Thread nD τ).loc cc0_scratch3) ↦{fullShare} xv m c) ∗ (((c : Thread nD τ).loc main_arg0) ↦{fullShare} xv m c))

/-- The tokens of the copies device `c` makes: its own send duties, its peer's receive duties. -/
def sendToks (c : Dev nD) : sProp 𝕄 :=
  bigSep Finset.univ fun k : Fin 16 => if Act k then iprop(dutyTok ER (sendCell c k) 0 () ∗ dutyTok ER (recvCell (peer c) k) 0 ()) else iprop(emp)

theorem St_begin (K : Dev nD × CI → ℕ) (c : Dev nD) (f : Vec F S1024x512 .bf16) :
    iprop(records m K ∗ (((c : Thread nD τ).loc cc0_scratch1) ↦{fullShare} f) ∗ openPx (peer c) ∗ sendToks c ∗ xsPts m c
        ∗ ∃ W, owes (c : Thread nD τ) (Osend c 0) W) ⊢ St m K c 0 := by
  unfold St openPx sendToks
  rw [upTo_none, xl_pieces]
  have h : iprop((bigSep Finset.univ fun k => xlP c k fullShare f)
      ∗ (bigSep Finset.univ fun k : Fin 16 => if Act k then iprop(∃ f, pxP (peer c) k f) else iprop(emp))
      ∗ (bigSep Finset.univ fun k : Fin 16 => if Act k then iprop(dutyTok ER (sendCell c k) 0 () ∗ dutyTok ER (recvCell (peer c) k) 0 ()) else iprop(emp)))
      ⊢ (bigSep Finset.univ (sTodo c) : sProp 𝕄) := by
    rw [← bigSep_sep', ← bigSep_sep']
    refine bigSep_mono fun k _ => ?_
    unfold sTodo
    by_cases hk : Act k
    · rw [if_pos hk, if_pos hk, if_pos hk]
      show iprop(xlP c k fullShare f ∗ (∃ f, pxP (peer c) k f) ∗ dutyTok ER (sendCell c k) 0 () ∗ dutyTok ER (recvCell (peer c) k) 0 ())
        ⊢ iprop((∃ f, xlP c k fullShare f) ∗ (∃ f, pxP (peer c) k f) ∗ dutyTok ER (sendCell c k) 0 () ∗ dutyTok ER (recvCell (peer c) k) 0 ())
      iintro ⟨H1, H2⟩
      isplitl [H1]; · iexists f; iexact H1
      iexact H2
    · rw [if_neg hk, if_neg hk, if_neg hk]
      show iprop(xlP c k fullShare f ∗ emp ∗ emp) ⊢ iprop((∃ f, xlP c k fullShare f) ∗ emp)
      iintro ⟨H1, -⟩
      isplitl [H1]; · iexists f; iexact H1
      iempintro
  iintro ⟨#HR, H1, H2, H3, H4, H5⟩
  isplitr; · iexact HR
  isplitl [H1 H2 H3]
  · iapply h
    isplitl [H1]; · iexact H1
    isplitl [H2] <;> iassumption
  isplitl [H4] <;> iassumption

theorem hz1 : (![0] : Fin 1 → Nat) = fun _ => 0 := funext fun a => by fin_cases a; rfl
omit [FloatOps F] in
theorem read_d (f : Vec F S1024 .i32) {inb} : (x7).view.readAt (Elt F) (Rect.unit (s := S1024) ![0] S1024.size inb).toLoadRect f = f :=
  Memref.readAt_unit_zero (Elt F) cc0_scratch4 hz1 _ _
omit [FloatOps F] in
theorem read_x (f : Vec F S1024x512 .f32) {inb} : (x6).view.readAt (Elt F) (Rect.unit (s := S1024x512) ![0, 0] S1024x512.size inb).toLoadRect f = f :=
  Memref.readAt_unit_zero (Elt F) cc0_scratch3 hz2 _ _
omit [FloatOps F] in
theorem write_xs (f w : Vec F S1024x512 .bf16) {inb} : ((Memref.whole cc0_scratch0 : Memref sig .tc .vmem S1024x512 .bf16).access
    (Rect.unit (s := S1024x512) ![0, 0] S1024x512.size inb)).write (Elt F) f w Finset.univ = w :=
  Memref.write_access_unit_zero_univ (Elt F) cc0_scratch0 hz2 _ f w

/-- A whole argument copied into a whole local buffer. -/
theorem copy_in (c : Dev nD) {s : Shape} {e : EltTy} (src : Memref sig .tc .hbm s e) (dst : Memref sig .tc .vmem s e) (sem : DmaSem sig)
    (hs : src.view.set = Finset.univ) (hN : 0 < dst.view.dmaCredit)
    {fs : Buf (Elt F) (src.view.loc (c : Thread nD τ))} {fd g : Buf (Elt F) (dst.view.loc (c : Thread nD τ))}
    (hg : dst.view.write (Elt F) fd (src.view.read (Elt F) fs) Finset.univ = g)
    {h1 : src.view.WordExact} {h2 : dst.view.WordExact} {h3 : DmaTarget.Typed (nD := nD) (τ := τ) (p := .tc) .hbm (.dma sem) (.here dst)}
    {α : Type} {Q : α → sProp (MT nD τ sig Unit (Elt F) ℕ UU ℕ)} {kont : PUnit → Prog (TpuEff nD τ sig (Elt F) Λ₀ .tc) α} :
    iprop((src.view.loc (c : Thread nD τ) ↦{fullShare} fs) ∗ (dst.view.loc (c : Thread nD τ) ↦{fullShare} fd) ∗ semVal ((c : Thread nD τ), .dma sem) 0)
      ⊢ iprop((Transfers.Flight EC (c : Thread nD τ) (.dma sem) () dst.view.dmaCredit
            iprop((dst.view.loc (c : Thread nD τ) ↦{fullShare} g) ∗ (src.view.loc (c : Thread nD τ) ↦{fullShare} fs)) -∗ wpc c (kont ⟨⟩) Q)
          -∗ wpc c (.op (.enqueueDma src (.here dst) (.dma sem) h1 h2 h3) kont) Q) := by
  have h := Transfers.wp_dmaLocal (defs := defs₀ (F := F)) (Q := Q) EC 𝒱₀ (c : Thread nD τ) none (src := src) (via := .same) (dst := dst) (sm := .dma sem) (hsrc := h1) (hdst := h2) (hsem := h3)
    (k := kont) (q := fullShare) (fs := fs) (fd := fd) (Sd := Finset.univ) () dst.view.dmaCredit rfl hN (Finset.subset_univ _)
  rw [hs] at h
  subst hg
  exact h

section Parts
variable (K : Dev nD × CI → ℕ) (c : Dev nD)

def w5 : BitVec 32 := Scalar.remsi (Scalar.divsi (Dev.word c) 8#32) 2#32
def w8 : BitVec 32 := Scalar.remsi (Scalar.divsi (Dev.word c) 1#32) 4#32
abbrev cols1024 : IVec S1x1024 32 := iota .tc S1x1024 32 [1] iota_S1x1024_d1_w32

def pre1 (f₃ : Vec F S1024x512 .f32) (f₄ : Vec F S1024 .i32) : sProp 𝕄 :=
  iprop(records m K ∗ levAts L lv ∗ dutyTok ER (barCell (peer c)) 0 () ∗ openPx c ∗ (∃ W, owes (c : Thread nD τ) (O₀ c) W)
    ∗ (((c : Thread nD τ).loc main_arg0) ↦{fullShare} xv m c) ∗ (((c : Thread nD τ).loc main_arg1) ↦{fullShare} dv m c)
    ∗ (((c : Thread nD τ).loc cc0_scratch3) ↦{fullShare} f₃) ∗ (((c : Thread nD τ).loc cc0_scratch4) ↦{fullShare} f₄)
    ∗ semVal ((c : Thread nD τ), .dma inS0) 0 ∗ semVal ((c : Thread nD τ), .dma inS1) 0)
def post1 : sProp 𝕄 :=
  iprop(rowsFlight m c ∗ (((c : Thread nD τ).loc main_arg1) ↦{fullShare} dv m c) ∗ (((c : Thread nD τ).loc cc0_scratch4) ↦{fullShare} dv m c)
    ∗ semVal ((c : Thread nD τ), .dma inS1) 0 ∗ ∃ W, owes (c : Thread nD τ) (Osend c 0) W)

/-- The signal to the peer; both arguments on their way; the destinations read. -/
theorem part1 (f₃ : Vec F S1024x512 .f32) (f₄ : Vec F S1024 .i32) (Q : _ → sProp 𝕄) :
    iprop(pre1 m K c f₃ f₄ ∗ (post1 m c -∗ Q ⟨c, place c, w5 c, w8 c, Scalar.subi 1#32 (place c), SemArray.scalar (sig.barrier 0 rfl), mask m c, mdi m c, incl m c, cols1024⟩))
      ⊢ wpc c (k0_part1 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7) Q := by
  rw [k0_part1_eq_skeleton]; unfold k0_part1_skel
  simp only [semSignalWord, semWaitWord, Prog.lift, Prog.bind_op, Prog.bind_ret, Prog.pure_eq_ret, wp_deviceId]
  unfold pre1 O₀ place w5 w8 mask mdi incl
  iintro ⟨⟨#HR, #Hlev, Ht, Hpx, ⟨%W, HO⟩, Ha0, Ha1, H3, H4, Hz0, Hz1⟩, HQ⟩
  rw [show (⟨k0_dev1 c, k0_dev1_lt c⟩ : Dev nD) = peer c from at_peer (k0_dev1_eq c)]
  iapply (Rounds.wp_signal 𝒱₀ ER (sched m) (c : Thread nD τ) none (dst := (peer c : Thread nD τ)) (κ := K (peer c, bI))
      (d := ()) (show () ∈ (sched m).duties (kcell (peer c, bI)) 0 by rw [duties_on m (peer c) bI trivial]; exact Finset.mem_univ _) ((amount_eq m (peer c) bI 0 ()).trans (by decide)) () (Osend c 0) rfl)
    $$ [HO Ht Hpx]
  · isplitr; · iapply (inv_at m K (peer c) bI); iexact HR
    isplitl [HO]; · iexact HO
    isplitl [Ht]; · iexact Ht
    isplitl [Hpx]
    · rw [show (sched m).payload ((peer c : Thread nD τ), .reg barS) 0 () = openPx c from (payload_eq m (peer c) bI 0 ()).trans (by unfold pay; rw [peer_peer])]; iexact Hpx
    · iapply (reached_at m K (peer c) bI); iexact HR
  iintro HO
  iapply (copy_in c (Memref.whole main_arg0 : Memref sig .tc .hbm S1024x512 .f32) x6 inS0 (View.set_whole _) x6_pos (fs := xv m c) (fd := f₃)
      (View.write_whole_univ cc0_scratch3 f₃ (xv m c))) $$ [Ha0 H3 Hz0]
  · isplitl [Ha0]; · iexact Ha0
    isplitl [H3] <;> iassumption
  iintro Hf0
  iapply (copy_in c (Memref.whole main_arg1 : Memref sig .tc .hbm S1024 .i32) x7 inS1 (View.set_whole _) x7_pos (fs := dv m c) (fd := f₄)
      (View.write_whole_univ cc0_scratch4 f₄ (dv m c))) $$ [Ha1 H4 Hz1]
  · isplitl [Ha1]; · iexact Ha1
    isplitl [H4] <;> iassumption
  iintro Hf1
  iapply (Transfers.wp_waitLocalO EC 𝒱₀ (c : Thread nD τ) none (sem := inS1) (srcw := (Memref.whole main_arg1 : Memref sig .tc .hbm S1024 .i32)) (dstw := x7) () rfl) $$ [Hf1 HO]
  · isplitl [Hf1]; · iexact Hf1
    isplitl [HO]; · iexact HO
    iapply (mayWait_low c _ (lv_other c _ in1_other) _ fun g u h => .inl (Osend_pos h)); iexact Hlev
  iintro ⟨⟨H4, Ha1⟩, Hz1, HO⟩
  iapply (wp_load 𝒱₀ (c : Thread nD τ) none Set.univ (m := x7) (Finset.subset_univ _)) $$ H4; iintro H4
  rw [read_d]
  iapply (wpc_ret c); iapply HQ
  unfold post1 rowsFlight
  isplitl [Hf0]; · iexact Hf0
  isplitl [Ha1]; · iexact Ha1
  isplitl [H4]; · iexact H4
  isplitl [Hz1]; · iexact Hz1
  iexists _; iexact HO

def pre2 (f₀ f₁ : Vec F S1024x512 .bf16) : sProp 𝕄 :=
  iprop(records m K ∗ levAts L lv ∗ rowsFlight m c ∗ (∃ W, owes (c : Thread nD τ) (Osend c 0) W) ∗ (((c : Thread nD τ).loc cc0_scratch0) ↦{fullShare} f₀)
    ∗ cred (tallyAt (barCell c) () 1) ∗ atPos ER (barCell c) 0 ∅ 0 ∗ (((c : Thread nD τ).loc cc0_scratch1) ↦{fullShare} f₁) ∗ sendToks c)
def post2 : sProp 𝕄 :=
  iprop(St m K c 1 ∗ (((c : Thread nD τ).loc main_arg0) ↦{fullShare} xv m c) ∗ (((c : Thread nD τ).loc cc0_scratch3) ↦{fullShare} xv m c)
    ∗ semVal ((c : Thread nD τ), .dma inS0) 0 ∗ atPos ER (barCell c) (0 + 1) ∅ 0)

/-- The rows read and narrowed; the peer awaited; the first chunk. -/
theorem part2 (hb : nGive m c = 512#32) (f₀ f₁ : Vec F S1024x512 .bf16) (v5 v8 v9 : BitVec 32) (Q : _ → sProp 𝕄) :
    iprop(pre2 m K c f₀ f₁ ∗ (post2 m K c -∗ Q ⟨nSelf m c, 512#32, rank m c, rows64⟩))
      ⊢ wpc c (k0_part2 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 c v5 v8 v9 (SemArray.scalar (sig.barrier 0 rfl)) (mask m c) (mdi m c) (incl m c) cols1024) Q := by
  rw [k0_part2_eq_skeleton]; unfold k0_part2_skel
  have hb' : Scalar.subi 1024#32 (extractAt ![0, 0, 0] (k0_pay4 (mdi m c)) inpos_S1x1x1_p0_0_0) = 512#32 := hb
  simp (decide := true) only [semSignalWord, semWaitWord, Prog.lift, Prog.bind_op, Prog.bind_ret, Prog.pure_eq_ret, hb', gate_on, gate_off, if_true, if_false]
  unfold pre2 rowsFlight
  iintro ⟨⟨#HR, #Hlev, Hf, ⟨%W, HO⟩, H0, Hc, Hat, H1, Ht⟩, HQ⟩
  iapply (Transfers.wp_waitLocalO EC 𝒱₀ (c : Thread nD τ) none (sem := inS0) (srcw := (Memref.whole main_arg0 : Memref sig .tc .hbm S1024x512 .f32)) (dstw := x6) () rfl) $$ [Hf HO]
  · isplitl [Hf]; · iexact Hf
    isplitl [HO]; · iexact HO
    iapply (mayWait_low c _ (lv_other c _ in0_other) _ fun g u h => .inl (Osend_pos h)); iexact Hlev
  iintro ⟨⟨H3, Ha0⟩, Hz0, HO⟩
  iapply (wp_load 𝒱₀ (c : Thread nD τ) none Set.univ (m := x6) (Finset.subset_univ _)) $$ H3; iintro H3
  rw [read_x]
  iapply (wp_load 𝒱₀ (c : Thread nD τ) none Set.univ (m := (Memref.whole cc0_scratch0 : Memref sig .tc .vmem S1024x512 .bf16)) (Finset.subset_univ _)) $$ H0; iintro H0
  iapply (wp_store 𝒱₀ (c : Thread nD τ) none Set.univ (m := (Memref.whole cc0_scratch0 : Memref sig .tc .vmem S1024x512 .bf16))
    (r := Rect.unit (s := S1024x512) ![0, 0] S1024x512.size inb_S1024x512_S1024x512_0_0) (Finset.subset_univ _)) $$ H0; iintro H0
  rw [write_xs]
  iapply (Rounds.wp_wait_rest_token 𝒱₀ ER (sched m) (c : Thread nD τ) none (κ := K (c, bI)) (wpE_semWait_eq 𝒱₀ (c : Thread nD τ) none Set.univ) (Set.mem_univ _) ()
      (O := Osend c 0) (R := 0) (m := 0) (T := ∅) (by rw [show (sched m).expect ((c : Thread nD τ), .reg barS) 0 = amt bI from expect_on m c bI trivial]; decide)) $$ [Hc HO Hat]
  · isplitr; · iapply (inv_at m K c bI); iexact HR
    isplitl [Hc]; · iexact Hc
    isplitl [HO]; · iexact HO
    isplitr; · iapply (mayWait_bar c 0); iexact Hlev
    iexact Hat
  iintro ⟨HO, Hat, -, Hpay⟩
  ihave Hpx := (show bigSep ((sched m).duties ((c : Thread nD τ), .reg (SemArray.scalar (sig.barrier 0 rfl)).sem) 0 \ ∅)
      (fun d => (sched m).payload ((c : Thread nD τ), .reg (SemArray.scalar (sig.barrier 0 rfl)).sem) 0 d) ⊢ openPx (peer c) from Entails.of_eq (rest_on m c bI trivial)) $$ Hpay
  ihave H := (St_begin m K c f₁) $$ [H1 Hpx Ht H0 HO]
  · isplitr; · iexact HR
    isplitl [H1]; · iexact H1
    isplitl [Hpx]; · iexact Hpx
    isplitl [Ht]; · iexact Ht
    isplitl [H0]; · iapply (show (((c : Thread nD τ).loc cc0_scratch0) ↦{fullShare} k0_pay6 (xv m c)) ⊢ xsPts m c from BI.Entails.refl _); iexact H0
    iexists _; iexact HO
  iapply (wp_load_xs m K c 0) $$ H; iintro H
  iapply (wp_send m K c 0 (a := 0) (b := 1) rfl rfl (by decide) (off := ![0, 0]) rfl rfl rfl rfl rfl rfl (at_peer (k0_dev2_eq c))) $$ H; iintro H
  iapply (wpc_ret c); iapply (show Q ⟨nSelf m c, 512#32, rank m c, rows64⟩ ⊢ Q ⟨extractAt ![0, 0, 0] (k0_pay4 (mdi m c)) inpos_S1x1x1_p0_0_0, 512#32,
      k0_pay5 (mask m c) (mdi m c) (incl m c) cols1024, iota .tc S64x1024 32 [0] iota_S64x1024_d0_w32⟩ from BI.Entails.refl _); iapply HQ
  unfold post2
  isplitl [H]; · iexact H
  isplitl [Ha0]; · iexact Ha0
  isplitl [H3]; · iexact H3
  isplitl [Hz0] <;> iassumption

end Parts

end Cert.Exchange

end
-- ==== Proof.Body.lean ====
/-
# The body, from its fourteen parts
-/
module

public import proofs.«01_k».proof.Proof.Begin

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Body
variable (K : Dev nD × CI → ℕ) (c : Dev nD)

/-- A device's positions, the tokens of the duties it pays and what it has been promised, beside the common records. -/
def ghost : sProp 𝕄 :=
  iprop(records m K ∗ levAts L lv ∗ dutyTok ER (barCell (peer c)) 0 () ∗ sendToks c ∗ atPos ER (barCell c) 0 ∅ 0 ∗ atRow sI c ∗ atRow rI c)
def promised (c : Dev nD) : sProp 𝕄 := iprop(cred (tallyAt (barCell c) () 1) ∗ credRow rI c)
/-- The two arguments, and the counters of the two local copies. -/
def argPts : sProp 𝕄 := iprop((((c : Thread nD τ).loc main_arg0) ↦{fullShare} xv m c) ∗ (((c : Thread nD τ).loc main_arg1) ↦{fullShare} dv m c))
def inVals (c : Dev nD) : sProp 𝕄 := iprop(semVal ((c : Thread nD τ), .dma inS0) 0 ∗ semVal ((c : Thread nD τ), .dma inS1) 0)
/-- The five local buffers, at any contents. -/
def bufs (c : Dev nD) : sProp 𝕄 :=
  iprop((∃ f : Buf (Elt F) ((c : Thread nD τ).loc cc0_scratch0), (((c : Thread nD τ).loc cc0_scratch0) ↦{fullShare} f)) ∗ (∃ f : Buf (Elt F) ((c : Thread nD τ).loc cc0_scratch1), (((c : Thread nD τ).loc cc0_scratch1) ↦{fullShare} f))
    ∗ (∃ f : Buf (Elt F) ((c : Thread nD τ).loc cc0_scratch2), (((c : Thread nD τ).loc cc0_scratch2) ↦{fullShare} f)) ∗ (∃ f : Buf (Elt F) ((c : Thread nD τ).loc cc0_scratch3), (((c : Thread nD τ).loc cc0_scratch3) ↦{fullShare} f))
    ∗ (∃ f : Buf (Elt F) ((c : Thread nD τ).loc cc0_scratch4), (((c : Thread nD τ).loc cc0_scratch4) ↦{fullShare} f)))
/-- Every counter back at zero. -/
def zeros (c : Dev nD) : sProp 𝕄 :=
  iprop(semVal (barCell c) 0 ∗ (bigSep Finset.univ fun k : Fin 16 => semVal (kcell (c, sI k)) 0) ∗ (bigSep Finset.univ fun k : Fin 16 => semVal (kcell (c, rI k)) 0)
    ∗ inVals c)

/-- The landing buffer, as what is lent to the peer and what stays. -/
theorem px_split (f : Vec F S1024x512 .bf16) : (((c : Thread nD τ).loc cc0_scratch2) ↦{fullShare} f) ⊢ iprop(openPx c ∗ pxRest c f : sProp 𝕄) := by
  unfold openPx pxRest
  rw [px_pieces, ← bigSep_sep']
  refine bigSep_mono fun k _ => ?_
  by_cases hk : Act k
  · rw [if_pos hk, if_pos hk]
    show pxP c k f ⊢ iprop((∃ f, pxP c k f) ∗ emp)
    iintro H
    isplitl [H]; · iexists f; iexact H
    iempintro
  · rw [if_neg hk, if_neg hk]
    show pxP c k f ⊢ iprop(emp ∗ pxP c k f)
    iintro H
    isplitr; · iempintro
    iexact H

theorem wpc_bind {α β : Type} (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := Entails.of_eq (wp_bind ..).symm

/-- The last wait is not taken. -/
theorem off_end (p : Prog (TpuEff nD τ sig (Elt F) Λ₀ .tc) PUnit) (Q : PUnit → sProp (MT nD τ sig Unit (Elt F) ℕ UU ℕ)) :
    wpc c (.ret ⟨⟩) Q ⊢ wpc c (do if gate 960#32 = 1#1 then p else pure ⟨⟩; pure ⟨⟩) Q := by
  rw [if_neg (show ¬ gate 960#32 = 1#1 by decide)]
  exact BI.Entails.refl _

theorem WSt_last : WSt m K sI c 8 ⊢ iprop(records m K ∗ upTo 16 (wDone m sI c) (wTodo sI c) ∗ someOwes c) := by
  rw [WSt_skip m K sI c 8 16 (by decide) (by decide)]; exact BI.Entails.refl _

theorem sound (hb : nGive m c = 512#32) (fo : Vec F S1024x512 .bf16) (Q : PUnit → sProp 𝕄) :
    iprop(ghost m K c ∗ promised c ∗ argPts m c ∗ inVals c ∗ bufs c ∗ (∃ W, owes (c : Thread nD τ) (O₀ c) W) ∗ (((c : Thread nD τ).loc cc0_stg0_0) ↦{fullShare} fo)
        ∗ ((argPts m c ∗ bufs c ∗ zeros c ∗ someOwes c ∗ (((c : Thread nD τ).loc cc0_stg0_0) ↦{fullShare} outAt m c)) -∗ Q ⟨⟩))
      ⊢ wpc c (cc0_body (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7) Q := by
  rw [cc0_body_eq_skeleton]; unfold cc0_body_skel
  unfold ghost promised argPts inVals bufs
  iintro ⟨⟨#HR, #Hlev, HtB, Hts, HaB, HaS, HaR⟩, ⟨HcB, HcR⟩, ⟨Ha0, Ha1⟩, ⟨Hz0, Hz1⟩, ⟨⟨%f0, H0⟩, ⟨%f1, H1⟩, ⟨%f2, H2⟩, ⟨%f3, H3⟩, ⟨%f4, H4⟩⟩, HO, Ho, HQ⟩
  ihave H2 := (px_split c f2) $$ H2
  icases H2 with ⟨Hpx, Hpr⟩
  iapply (wpc_bind c)
  iapply (part1 m K c f3 f4 _)
  isplitl [HtB Hpx HO Ha0 Ha1 H3 H4 Hz0 Hz1]
  · unfold pre1
    isplitr; · iexact HR
    isplitr; · iexact Hlev
    isplitl [HtB]; · iexact HtB
    isplitl [Hpx]; · iexact Hpx
    isplitl [HO]; · iexact HO
    isplitl [Ha0]; · iexact Ha0
    isplitl [Ha1]; · iexact Ha1
    isplitl [H3]; · iexact H3
    isplitl [H4]; · iexact H4
    isplitl [Hz0] <;> iassumption
  unfold post1
  iintro ⟨Hf, Ha1, H4, Hz1, HO⟩
  try dsimp only
  iapply (wpc_bind c)
  iapply (part2 m K c hb f0 f1 _ _ _ _)
  isplitl [Hf HO H0 HcB HaB H1 Hts]
  · unfold pre2
    isplitr; · iexact HR
    isplitr; · iexact Hlev
    isplitl [Hf]; · iexact Hf
    isplitl [HO]; · iexact HO
    isplitl [H0]; · iexact H0
    isplitl [HcB]; · iexact HcB
    isplitl [HaB]; · iexact HaB
    isplitl [H1] <;> iassumption
  unfold post2
  iintro ⟨H, Ha0, H3, Hz0, HaB⟩
  try dsimp only
  iapply (wpc_bind c); iapply (part3 m K c _ _ _ _)
  isplitl [H]; · iexact H
  iintro H
  try dsimp only
  iapply (wpc_bind c); iapply (part4 m K c _ _ _ _)
  isplitl [H]; · iexact H
  iintro H
  try dsimp only
  iapply (wpc_bind c); iapply (part5 m K c _ _ _ _)
  isplitl [H]; · iexact H
  iintro H
  try dsimp only
  iapply (wpc_bind c); iapply (part6 m K c _ _ _ _)
  isplitl [H]; · iexact H
  iintro H
  try dsimp only
  iapply (wpc_bind c); iapply (part7 m K c _ _ _ _)
  isplitl [H]; · iexact H
  iintro H
  try dsimp only
  iapply (wpc_bind c); iapply (part8 m K c _ _ _ _)
  isplitl [H]; · iexact H
  iintro H
  try dsimp only
  iapply (wpc_bind c); iapply (part9 m K c _ _ _ _)
  isplitl [H]; · iexact H
  iintro H
  try dsimp only
  ihave HV := (row_begin m rI c) $$ [HaR HcR]
  · isplitl [HaR] <;> iassumption
  iapply (wpc_bind c); iapply (part10 m K c _ _ _ _ _ _)
  isplitl [H]; · iexact H
  isplitl [HV]; · iexact HV
  iintro ⟨H, HxL, HcS, HxR, H0⟩
  try dsimp only
  iapply (wpc_bind c); iapply (part11 m K c _ _ _ _)
  isplitl [H]; · iexact H
  iintro H
  try dsimp only
  iapply (wpc_bind c); iapply (part12 m K c _ _ _ _ _ f2 fo _)
  isplitl [H]; · iexact H
  isplitl [Hpr]; · iexact Hpr
  isplitl [Ho]; · iexact Ho
  iintro ⟨-, HzR, HO, H2, Ho⟩
  try dsimp only
  ihave HV := (row_begin m sI c) $$ [HaS HcS]
  · isplitl [HaS] <;> iassumption
  iapply (wpc_bind c); iapply (part13 m K c _)
  isplitl [HV HO]
  · unfold WSt someOwes
    isplitr; · iexact HR
    isplitl [HV] <;> iassumption
  iintro H
  try dsimp only
  iapply (wpc_bind c); iapply (part14 c _)
  try dsimp only
  iapply (off_end c _ _)
  ihave H := (WSt_last m K c) $$ H
  icases H with ⟨-, HV, HO⟩
  imod (close_row m K c (f := sI) (.inl rfl)) $$ [HV] with ⟨HzS, Hp⟩
  · isplitr; · iexact HR
    iexact HV
  imod (Rounds.cell_close ER (sched m) (Set.mem_univ (K (c, bI))) (fun h => h) (R := 0 + 1) (duties_later m (barCell c))) $$ [HaB] with HzB
  · isplitr; · iapply (inv_at m K c bI); iexact HR
    iexact HaB
  ihave H1 := (xl_join m c) $$ [Hp HxR HxL]
  · isplitl [Hp]; · iexact Hp
    isplitl [HxR] <;> iassumption
  iapply (wpc_ret c)
  iapply HQ
  isplitl [Ha0 Ha1]
  · isplitl [Ha0] <;> iassumption
  isplitl [H0 H1 H2 H3 H4]
  · isplitl [H0]; · unfold xsPts; iexists _; iexact H0
    isplitl [H1]; · iexists _; iexact H1
    isplitl [H2]; · iexact H2
    isplitl [H3]; · iexists _; iexact H3
    iexists _; iexact H4
  isplitl [HzB HzS HzR Hz0 Hz1]
  · unfold zeros inVals
    isplitl [HzB]; · iexact HzB
    isplitl [HzS]; · iexact HzS
    isplitl [HzR]; · iexact HzR
    isplitl [Hz0] <;> iassumption
  isplitl [HO]; · iexact HO
  iexact Ho

end Body

end Cert.Exchange

end
-- ==== Proof.Launch.lean ====
/-
# The run on sixteen devices

Each device starts with the exchange's semaphores and what it is promised, runs the body once, and ends with every
counter at zero and the body's value in its result array.
-/
module

public import proofs.«01_k».proof.Proof.Body
public import Idealize.ShloMosaic.Lib.Pipeline.ValueKit.Geometry
public import Idealize.ShloMosaic.Lib.Pipeline.CollectiveSegs
public import Idealize.ShloMosaic.Lib.Quiescent

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The one point's data -/

def start (c : Dev nD) : sProp 𝕄 := iprop((∃ K, ghost m K c) ∗ promised c ∗ argPts m c ∗ inVals c)
def Φ₀ (c : Dev nD) : sProp 𝕄 := iprop(start m c ∗ bufs c)
def Φ₁ (c : Dev nD) : sProp 𝕄 := iprop(argPts m c ∗ bufs c ∗ zeros c)

def dats (_ : Fin 1) (c : Dev nD) : Pipeline.Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m 0 c).owesAt () (t0_0 : Fin cfg0.N).castSucc ∗ (∃ d, stg c cc0_stg0_0 ((dats m 0 c).before (0 : Fin 1) t0_0 d)))
def bodyPost (c : Dev nD) : sProp 𝕄 :=
  iprop((dats m 0 c).Φ (t0_0 : Fin cfg0.N).succ ∗ (dats m 0 c).owesAt () (t0_0 : Fin cfg0.N).succ ∗ stg c cc0_stg0_0 ((dats m 0 c).after (0 : Fin 1) t0_0))

theorem bodyPost_intro (c : Dev nD) :
    iprop(argPts m c ∗ bufs c ∗ zeros c ∗ someOwes c ∗ (((c : Thread nD τ).loc cc0_stg0_0) ↦{fullShare} outAt m c)) ⊢ bodyPost m c := by
  unfold bodyPost Pipeline.Dat.owesAt Pipeline.owesWithin someOwes
  rw [show (dats m 0 c).Φ (t0_0 : Fin cfg0.N).succ = Φ₁ m c from rfl]
  unfold Φ₁
  iintro ⟨HA, HB, HZ, ⟨%W, HO⟩, Ho⟩
  isplitl [HA HB HZ]
  · isplitl [HA]; · iexact HA
    isplitl [HB] <;> iassumption
  isplitl [HO]
  · iexists W
    isplitr; · ipureintro; exact fun _ _ => Or.inl trivial
    iexact HO
  iexists _; isplitr; · (ipureintro; rfl)
  iexact Ho

theorem sound_point (c : Dev nD) (hb : nGive m c = 512#32) :
    bodyPre m c ⊢ wpc c (cc0_body (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7) (fun _ => bodyPost m c) := by
  unfold bodyPre Φ₀ start Pipeline.Dat.owesAt Pipeline.owesWithin
  iintro ⟨⟨⟨⟨%K, Hg⟩, Hp, Ha, Hi⟩, Hb⟩, ⟨%W, %hW, HO⟩, ⟨%d, %g, %hg, Ho⟩⟩
  iapply (sound m K c hb g (fun _ => bodyPost m c))
  isplitl [Hg]; · iexact Hg
  isplitl [Hp]; · iexact Hp
  isplitl [Ha]; · iexact Ha
  isplitl [Hi]; · iexact Hi
  isplitl [Hb]; · iexact Hb
  isplitl [HO]; · iexists W; iexact HO
  isplitl [Ho]; · iexact Ho
  iintro H
  iapply (bodyPost_intro m c)
  iexact H

/-- The one label's body. -/
theorem call_eq : (defs₀ (F := F)) Proc.tc 0 (t0_0, cfg0.slots t0_0) = cc0_body (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 := by
  unfold defs₀ Defs.onTc
  dsimp only

theorem body_obligation (hb : ∀ c, nGive m c = 512#32) (c : Dev nD) :
    Pipeline.BodyObligation (dats (F := F) m 0 c) (defs₀ (F := F)) 𝒱₀ () Set.univ := fun t => by
  rw [fin_N0 t]
  rw [bigSep_W0, bigSep_W0]
  simp only [owns_whole_eq]
  refine (show _ ⊢ bodyPre m c from ?_).trans ((sound_point m c (hb c)).trans ?_)
  · unfold bodyPre; exact BI.Entails.refl _
  · unfold wpc bodyPost
    rw [call_eq]

/-! ## The launch's shares -/

def osem : (Fin 16 ⊕ Fin 16) ⊕ Fin 2 → SemLoc sig
  | .inl (.inl k) => .dma (sendS k)
  | .inl (.inr k) => .dma (recvS k)
  | .inr 0 => .dma inS0
  | .inr 1 => .dma inS1
theorem ownSemFacts : Pipeline.OwnSemFacts spec0 osem := by decide +kernel

theorem share_eq (c : Dev nD) (w : Fin cfg0.W) : (dats m 0 c).share w = fullShare := by unfold Pipeline.Dat.share; split <;> rfl

def cells : Finset (GSem nD τ sig) := Finset.univ.map ⟨kcell, kcell_injective⟩
theorem tok_injective : Function.Injective (fun ci : Dev nD × CI => ((kcell ci, 0, ()) : GSem nD τ sig × ℕ × Unit)) :=
  fun a b h => kcell_injective (congrArg Prod.fst h)
def toks : Finset (GSem nD τ sig × ℕ × Unit) := Finset.univ.map ⟨_, tok_injective⟩

def u₀ : UU := (initOf (Pipeline.cells cfgs cellOf_inj) (Pipeline.launchToks cfgs cellOf_inj), (initOf cells toks, 1))

/-- What is minted for device `c`'s own cells. -/
def G (c : Dev nD) : sProp 𝕄 :=
  iprop((bigSep Finset.univ fun i : CI => roundState ER (sched m) (kcell (c, i)) 0)
    ∗ (bigSep Finset.univ fun i : CI => atPos ER (kcell (c, i)) 0 ∅ 0) ∗ (bigSep Finset.univ fun i : CI => reached ER (kcell (c, i)) 0)
    ∗ bigSep Finset.univ fun i : CI => dutyTok ER (kcell (c, i)) 0 ())

/-- What device `c` alone has once the tokens are dealt. -/
def own (c : Dev nD) : sProp 𝕄 :=
  iprop(dutyTok ER (barCell (peer c)) 0 () ∗ sendToks c ∗ atPos ER (barCell c) 0 ∅ 0 ∗ atRow sI c ∗ atRow rI c)
def G' (c : Dev nD) : sProp 𝕄 := iprop((∃ K, records m K ∗ own c) ∗ inVals c)

/-- A conjunction over a device's cells, by kind. -/
theorem ci_split (Φ : CI → sProp 𝕄) :
    bigSep Finset.univ Φ = iprop(Φ bI ∗ (bigSep Finset.univ fun k : Fin 16 => Φ (sI k)) ∗ bigSep Finset.univ fun k : Fin 16 => Φ (rI k)) := by
  rw [bigSep_univ_sum, bigSep_univ_sum (fun b => Φ (.inr b))]
  rw [bigSep_univ_eq_bigSepL [()] (by decide) (by decide)]
  rfl

theorem fund_cells : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun i : CI => Φ (kcell (c, i)) := by
    unfold cells; rw [bigSep_map, bigSep_univ_prod]; rfl
  have hT : bigSep toks (fun x => (dutyTok ER x.1 x.2.1 x.2.2 : sProp 𝕄)) = bigSep Finset.univ fun c : Dev nD => bigSep Finset.univ fun i : CI => dutyTok ER (kcell (c, i)) 0 () := by
    unfold toks; rw [bigSep_map, bigSep_univ_prod]; rfl
  iintro HX
  imod (Rounds.fund ER (sched m) cells toks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

theorem ownSems0_eq (c : Dev nD) : (Pipeline.ownSems0 (Ix := Unit) (Name := ℕ) (U := UU) (Lvl := ℕ) (Val := Elt F) (τ := τ) osem c : sProp 𝕄)
    = iprop(((bigSep Finset.univ fun k : Fin 16 => semVal (kcell (c, sI k)) 0) ∗ bigSep Finset.univ fun k : Fin 16 => semVal (kcell (c, rI k)) 0) ∗ inVals c) := by
  unfold Pipeline.ownSems0
  rw [bigSep_univ_sum, bigSep_univ_sum, bigSep_univ_eq_bigSepL [(0 : Fin 2), 1] (by decide) (by decide)]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters, as its cells' and the two local ones. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun i : CI => semVal (kcell (c, i)) 0) ∗ inVals c) : sProp 𝕄) := by
  rw [ownSems0_eq, unscopedSems0_eq, ci_split]
  iintro ⟨⟨⟨HS, HV⟩, HI⟩, HB⟩
  isplitr [HI]
  · isplitl [HB]; · iexact HB
    isplitl [HS] <;> iassumption
  · iexact HI

def made (c : Dev nD) : sProp 𝕄 :=
  iprop((bigSep Finset.univ fun i : CI => iprop(∃ κ : ℕ, cellInv ER (sched m) κ (kcell (c, i)))) ∗ (bigSep Finset.univ fun i : CI => atPos ER (kcell (c, i)) 0 ∅ 0)
    ∗ (bigSep Finset.univ fun i : CI => reached ER (kcell (c, i)) 0) ∗ (bigSep Finset.univ fun i : CI => dutyTok ER (kcell (c, i)) 0 ()) ∗ inVals c)

theorem core_alloc (c : Dev nD) :
    iprop(Pipeline.ownSems0 (Ix := Unit) (Name := ℕ) (U := UU) (Lvl := ℕ) (Val := Elt F) (τ := τ) osem c ∗ unscopedSems0 c ∗ G m c) ⊢ |={Set.univ}=> made m c := by
  unfold G made
  iintro ⟨Hos, Hus, Hst, Hat, Hr, Htok⟩
  ihave H := (sems0_split (F := F) c) $$ [Hos Hus]
  · isplitl [Hos] <;> iassumption
  icases H with ⟨Hv, HI⟩
  imod (show iprop((bigSep Finset.univ fun i : CI => semVal (kcell (c, i)) 0) ∗ bigSep Finset.univ fun i : CI => roundState ER (sched m) (kcell (c, i)) 0)
      ⊢ (|={Set.univ}=> bigSep Finset.univ fun i : CI => iprop(∃ κ : ℕ, cellInv ER (sched m) κ (kcell (c, i))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact HI

/-- The tokens dealt across each pair: a barrier's and a receive's go to the peer, a send's stays. -/
theorem toks_around : (bigSep Finset.univ fun c : Dev nD => bigSep Finset.univ fun i : CI => (dutyTok ER (kcell (c, i)) 0 () : sProp 𝕄))
    ⊢ bigSep Finset.univ fun c : Dev nD => iprop(dutyTok ER (barCell (peer c)) 0 () ∗ sendToks c) := by
  rw [bigSep_congr fun (c : Dev nD) _ => ci_split fun i => (dutyTok ER (kcell (c, i)) 0 () : sProp 𝕄)]
  rw [bigSep_sep', bigSep_sep', bigSep_sep',
    bigSep_univ_equiv pair (fun c : Dev nD => (dutyTok ER (kcell (c, bI)) 0 () : sProp 𝕄)),
    bigSep_univ_equiv pair (fun c : Dev nD => (bigSep Finset.univ fun k : Fin 16 => dutyTok ER (kcell (c, rI k)) 0 () : sProp 𝕄))]
  refine sep_mono_right ?_
  rw [← bigSep_sep']
  refine bigSep_mono fun c _ => ?_
  unfold sendToks
  rw [← bigSep_sep']
  refine bigSep_mono fun k _ => ?_
  by_cases hk : Act k
  · rw [if_pos hk]; exact BI.Entails.refl _
  · rw [if_neg hk]
    show iprop(dutyTok ER (kcell (c, sI k)) 0 () ∗ dutyTok ER (kcell (pair c, rI k)) 0 ()) ⊢ (iprop(emp) : sProp 𝕄)
    iintro -; iempintro

theorem with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem own_intro :
    iprop((bigSep Finset.univ fun c : Dev nD => iprop(dutyTok ER (barCell (peer c)) 0 () ∗ sendToks c)) ∗ (bigSep Finset.univ fun c : Dev nD => bigSep Finset.univ fun i : CI => atPos ER (kcell (c, i)) 0 ∅ 0)
        ∗ bigSep Finset.univ fun c : Dev nD => inVals c)
      ⊢ (bigSep Finset.univ fun c : Dev nD => iprop(own c ∗ inVals c) : sProp 𝕄) := by
  rw [← bigSep_sep', ← bigSep_sep']
  refine bigSep_mono fun c _ => ?_
  unfold own atRow
  rw [ci_split]
  show iprop((dutyTok ER (barCell (peer c)) 0 () ∗ sendToks c) ∗ (atPos ER (barCell c) 0 ∅ 0 ∗ (bigSep Finset.univ fun k : Fin 16 => atPos ER (kcell (c, sI k)) 0 ∅ 0)
      ∗ bigSep Finset.univ fun k : Fin 16 => atPos ER (kcell (c, rI k)) 0 ∅ 0) ∗ inVals c)
    ⊢ (iprop((dutyTok ER (barCell (peer c)) 0 () ∗ sendToks c ∗ atPos ER (barCell c) 0 ∅ 0 ∗ (bigSep Finset.univ fun k : Fin 16 => atPos ER (kcell (c, sI k)) 0 ∅ 0)
      ∗ bigSep Finset.univ fun k : Fin 16 => atPos ER (kcell (c, rI k)) 0 ∅ 0) ∗ inVals c) : sProp 𝕄)
  iintro ⟨⟨HtB, HtS⟩, ⟨HB, HS, HR⟩, HI⟩
  isplitr [HI]
  · isplitl [HtB]; · iexact HtB
    isplitl [HtS]; · iexact HtS
    isplitl [HB]; · iexact HB
    isplitl [HS]; · iexact HS
    iexact HR
  iexact HI

theorem regroup : (bigSep Finset.univ fun c : Dev nD => made m c) ⊢ bigSep Finset.univ (G' m) := by
  unfold made
  rw [bigSep_sep', bigSep_sep', bigSep_sep', bigSep_sep', ← bigSep_univ_prod (fun ci : Dev nD × CI => iprop(∃ κ : ℕ, cellInv ER (sched m) κ (kcell ci))),
    ← bigSep_univ_prod (fun ci : Dev nD × CI => (reached ER (kcell ci) 0 : sProp 𝕄))]
  iintro ⟨HI, Hat, #HR, Htok, Hin⟩
  ihave HK := (BI.bigSep_exists_pi Finset.univ (fun (ci : Dev nD × CI) (κ : ℕ) => (cellInv ER (sched m) κ (kcell ci) : sProp 𝕄))) $$ HI
  icases HK with ⟨%K, #HI⟩
  ihave Htk := (toks_around (F := F)) $$ Htok
  ihave Ho := (own_intro (F := F)) $$ [Htk Hat Hin]
  · isplitl [Htk]; · iexact Htk
    isplitl [Hat] <;> iassumption
  iapply (with_persistent (R := records m K) (Φ := fun c => iprop(own c ∗ inVals c)) (Ψ := G' m) fun c _ => show iprop(records m K ∗ own c ∗ inVals c) ⊢ G' m c by
    unfold G'
    iintro ⟨#HR, Ho, Hi⟩
    isplitl [Ho]
    · iexists K; isplitr; · iexact HR
      iexact Ho
    iexact Hi)
  isplitr
  · unfold records; isplitl; · iexact HI
    iexact HR
  iexact Ho

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What each device is promised -/

theorem creds (c : Dev nD) : (Pipeline.launchCred O₀ c : sProp 𝕄) ⊢ promised c := by
  rw [show (O₀ : Dev nD → CellTallies nD τ sig Unit) = fun d => Osend d 0 + tallyAt (barCell (peer d)) () 1 from rfl, Pipeline.launchCred_add,
    show (fun d => Osend d 0 : Dev nD → CellTallies nD τ sig Unit)
      = fun d => ∑ k ∈ (Finset.univ : Finset (Fin 16)), (fun (k : Fin 16) (d : Dev nD) => if 0 ≤ k.val ∧ Act k then tallyAt (recvCell (peer d) k) () N else 0) k d from rfl,
    Pipeline.launchCred_sum]
  unfold promised credRow
  iintro ⟨HR, HB⟩
  isplitl [HB]
  · iapply (Pipeline.launchCred_tallyAt (.reg barS) peer peer peer_peer peer_peer () 1 c); iexact HB
  iapply (show (bigSep (Finset.univ : Finset (Fin 16)) fun k => Pipeline.launchCred (fun d : Dev nD => if 0 ≤ k.val ∧ Act k then tallyAt (recvCell (peer d) k) () N else 0) c : sProp 𝕄)
      ⊢ bigSep (Finset.univ : Finset (Fin 16)) fun k => if Act k then cred (tallyAt (kcell (c, rI k)) () N) else iprop(emp) from bigSep_mono fun k _ => by
    by_cases hk : Act k
    · rw [if_pos hk, show (fun d : Dev nD => if 0 ≤ k.val ∧ Act k then (tallyAt (recvCell (peer d) k) () N : CellTallies nD τ sig Unit) else 0) = fun d => tallyAt (recvCell (peer d) k) () N from
        funext fun d => if_pos ⟨Nat.zero_le _, hk⟩]
      exact Pipeline.launchCred_tallyAt (.dma (recvS k)) peer peer peer_peer peer_peer () N c
    · rw [if_neg hk]
      show (Pipeline.launchCred (fun d : Dev nD => if 0 ≤ k.val ∧ Act k then tallyAt (recvCell (peer d) k) () N else 0) c : sProp 𝕄) ⊢ iprop(emp)
      iintro -; iempintro)
  iexact HR

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' ghost own argPts
  iintro ⟨⟨Ha0, Ha1⟩, Hlev, Hcr, -, ⟨%K, HR, HtB, HtS, HaB, HaS, HaR⟩, Hi⟩
  ihave Hc := (creds (F := F) c) $$ Hcr
  imodintro
  isplitl
  · isplitl [Hlev HR HtB HtS HaB HaS HaR]
    · iexists K
      isplitl [HR]; · iexact HR
      isplitl [Hlev]; · iexact Hlev
      isplitl [HtB]; · iexact HtB
      isplitl [HtS]; · iexact HtS
      isplitl [HaB]; · iexact HaB
      isplitl [HaS]; · iexact HaS
      iexact HaR
    isplitl [Hc]; · iexact Hc
    isplitl [Ha0 Ha1]
    · isplitl [Ha0]; · iexact Ha0
      iexact Ha1
    iexact Hi
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hr⟩
  isplitl [Hs]; · iexact Hs
  iexact Hr

theorem phi1_exit (c : Dev nD) :
    (dats m 0 c).Φ (Fin.last cfg0.N) ⊢ iprop((unscopedSems0 c ∗ argPts m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ bufs zeros
  iintro ⟨Ha, Hr, HzB, HzS, HzR, Hi⟩
  isplitl [HzB Ha]
  · isplitl [HzB] <;> iassumption
  isplitl [HzS HzR Hi]
  · isplitr [Hi]
    · isplitl [HzS] <;> iassumption
    iexact Hi
  iexact Hr

theorem mayWait_stage (c : Dev nD) (q : DmaSem sig) (hq : ∀ i, csem i ≠ .dma q) (O : CellTallies nD τ sig Unit) (hO : O = O₀ c ∨ O = 0) :
    (levAts L lv : sProp 𝕄) ⊢ MayWait (c : Thread nD τ) (.dma q) () O := by
  rcases hO with rfl | rfl
  · exact mayWait_low c _ (lv_other c _ hq) _ fun g u h => O₀_pos h
  · rw [MayWait_zero]; iintro -; iempintro

theorem stage_other (w : Fin cfg0.W) (s : Fin (cfg0.win w).nbuf) : ∀ i, csem i ≠ .dma ((cfg0.win w).sem s) := by
  revert w s; decide +kernel

theorem waits (c : Dev nD) : (levAts L lv : sProp 𝕄) ⊢ Pipeline.cellsWaits cfgs (dats m) () 0 c :=
  Pipeline.cellsWaits_intro cfgs (dats m) () 0 c fun w s t =>
    mayWait_stage c _ (stage_other w s) _ (by
      rcases t with ⟨_ | _, ht⟩
      · exact Or.inl rfl
      · exact Or.inr rfl)

/-! ## The run -/

/-- The result array after the run is what the body left in its staging buffer. -/
theorem result_eq (c : Dev nD) : (dats m 0 c).arrAt (0 : Fin 1) cfg0.N = (outAt m c : Buf (Elt F) ((c : Thread nD τ).loc main_v1)) :=
  (dats m 0 c).arrAt_eq_of_after_last (0 : Fin 1) t0_0 (by decide +kernel) (outAt m c) fun j => rfl

/-- What a device's memory holds after the run. -/
def Left (c : Dev nD) (s : MemSt nD τ sig (Elt F)) : Prop :=
  s.mem ((c : Thread nD τ).loc main_v1) = outAt m c ∧ s.mem ((c : Thread nD τ).loc main_arg0) = xv m c ∧ s.mem ((c : Thread nD τ).loc main_arg1) = dv m c

def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = xv m c ∧ s.mem ((c : Thread nD τ).loc main_arg1) = dv m c

theorem own_fst (b : UB) : BI.own ((embR : Emb (UB × Counters) 𝕄) (b, (1 : Counters))) ⊢ (BI.own (ER b) : sProp 𝕄) := BI.Entails.refl _

/-- Reading what a device ends with off the final state. -/
theorem read_end (c : Dev nD) (s' : Phys nD τ sig (Elt F)) :
    iprop((unscopedSems0 c ∗ argPts m c) ∗ emp ∗ SI s') ⊢ (|={Set.univ}=> iprop(⌜QY m c s'.mem⌝ ∗ SI s') : sProp 𝕄) := by
  unfold argPts
  iintro ⟨⟨Hu, H0, H1⟩, -, HSI⟩
  icombine HSI H0 gives %h0
  icombine HSI H1 gives %h1
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ h0, Buf.eq_of_forall_mem_univ h1⟩
  iexact HSI

set_option maxRecDepth 8000 in
theorem run_main (ρ : Dev nD → PrngReg) (hb : ∀ c, nGive m c = 512#32) :
    θ_run defs (onTc (τ := τ) (main (F := F))) ⟨m, fun _ => 0, ρ⟩ (fun r => (∀ c, Left m c r.2) ∧ r.2.sem = fun _ => 0) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?hmain) (hbody := ?hbody) (hne := block_pos0) (harr := arr_whole0) (hstage := stage_whole0) (hshare := share_eq m)
    (hdistinct := winFacts0.arr_inj)
    (O₀ := O₀) (howed₀ := ?howed₀) (howedN := ?howedN)
    (L := L) (lv := lv) (hL := L_of_ne) (hwaits := ?hwaits)
    (G := G m) (G' := G' m) (u₀ := u₀) (hu₀ := ?hu₀) (hglob := ?hglob)
    (hA := ?hA) (hpf := fun _ k => k.elim0)
    (X := start m) (Y := fun c => iprop(unscopedSems0 c ∗ argPts m c)) (Z := fun _ => iprop(emp))
    (hX := ?hX) (hin := ?hin) (hout := ?hout) (QY := QY m) (hY := ?hY) (hQ := ?hQ)
  case hmain => exact fun _ => rfl
  case hbody => exact fun c => (body_obligation m hb c).loose
  case howed₀ => exact fun _ => rfl
  case howedN => exact fun _ => rfl
  case hwaits => exact waits m
  case hu₀ =>
    unfold u₀
    iintro Hu
    ihave H := (ownU_pair _ _) $$ Hu
    icases H with ⟨HP, HX⟩
    ihave HX := (own_fst _) $$ HX
    imod (fund_cells m) $$ HX with HG
    imodintro
    isplitl [HP] <;> iassumption
  case hglob => exact glob m
  case hA => exact fun _ _ => rfl
  case hX => exact start_intro m ρ
  case hin => exact phi0_intro m
  case hout => exact phi1_exit m
  case hY => exact read_end m
  case hQ => exact fun s h hs => ⟨fun c => ⟨((h c).1 0).trans (result_eq m c), (h c).2.2.2⟩, sem_eq_zero hs fun c => (h c).2.2.1⟩

end Cert.Exchange

end
-- ==== Proof.Count.lean ====
/-
# How many rows stay

The counts of the two destinations in a device's block, as the kernel and the precondition both compute them: half of
the rows stay and half are given away.
-/
module

public import proofs.«01_k».proof.Proof.Contents
public import proofs.«01_k».proof.Proof.Gen.Pre_balanced_Kernel
public import Idealize.ShloMosaic.Lib.IndicatorCount
public import Idealize.ShloMosaic.PureOps.Reduce

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The device's `y` coordinate, as a word. -/
def side (c : Dev nD) : BitVec 32 := if c.val % 8 < 4 then 0#32 else 1#32
theorem side_eq (c : Dev nD) : Scalar.remsi (Scalar.divsi (Dev.word c) 4#32) 2#32 = side c := by revert c; decide

/-- How many of a block's destinations are `b`. -/
def count (d : IVec S1024 32) (b : BitVec 32) : ℕ := (Finset.univ.filter fun i : S1024.Idx => d i = b).card

theorem count_le (d : IVec S1024 32) (b : BitVec 32) : count d b ≤ 1024 := by
  refine (Finset.card_filter_le _ _).trans ?_
  rw [Finset.card_univ, Fintype.card_congr S1024.rowMajor, Fintype.card_fin]
  decide

theorem cmpi_eq_one {s : Shape} (d e : IVec s 32) (i : s.Idx) : Iff (cmpi .eq d e i = 1#1) (d i = e i) := by
  show Iff (BitVec.ofBool (d i == e i) = 1#1) _
  by_cases h : d i = e i
  · rw [h]; simp
  · rw [show (d i == e i) = false by simpa using h]
    exact ⟨fun h' => absurd h' (by decide), fun h' => absurd h' h⟩

/-- A sum of one-bit comparisons, over indices in correspondence with the block's, counts. -/
theorem fold_count {s : Shape} (e : s.Idx ≃ S1024.Idx) (d : IVec S1024 32) (b : BitVec 32) (p : s.Idx → BitVec 1)
    (hp : ∀ i, Iff (p i = 1#1) (d (e i) = b)) (S : Finset s.Idx) (hS : S = Finset.univ) :
    S.fold IntOp.addi 0#32 (fun i => (p i).setWidth 32) = BitVec.ofNat 32 (count d b) := by
  subst hS
  rw [IndicatorCount.fold_addi_setWidth_eq_card]
  refine congrArg _ (Finset.card_equiv e fun i => ?_)
  rw [Finset.mem_filter, Finset.mem_filter, hp i]
  exact ⟨fun h => ⟨Finset.mem_univ _, h.2⟩, fun h => ⟨Finset.mem_univ _, h.2⟩⟩

theorem mask_iff (c : Dev nD) (j : S1x1024.Idx) :
    Iff (mask m c j = 1#1) (dv m c (Shape.reshapeEquiv shapeCasts_S1024_S1x1024 j) = side c) := by
  unfold mask k0_pay1
  rw [cmpi_eq_one]
  show Iff (dv m c (Shape.reshapeEquiv shapeCasts_S1024_S1x1024 j) = Scalar.remsi (Scalar.divsi (Dev.word c) 4#32) 2#32) _
  rw [side_eq]

theorem nSelf_eq (c : Dev nD) : nSelf m c = BitVec.ofNat 32 (count (dv m c) (side c)) := by
  unfold nSelf k0_pay4
  show multiReductionI .add [1, 2] S1 (shapeCast S1x1x1024 (mdi m c) shapeCasts_S1x1024_S1x1x1024) 0#32 reduces_S1x1x1024_S1 rfl _ = _
  refine (congrFun (multiReductionI_eq_reduceFold .add _ 0#32 reduces_S1x1x1024_S1 rfl) _).trans ?_
  refine (reduceFold_eq_fold reduces_S1x1x1024_S1 IntOp.addi 0#32 _ _).trans ?_
  refine fold_count ((Shape.reshapeEquiv shapeCasts_S1x1024_S1x1x1024).trans (Shape.reshapeEquiv shapeCasts_S1024_S1x1024)) (dv m c) (side c)
    (fun i => mask m c (Shape.reshapeEquiv shapeCasts_S1x1024_S1x1x1024 i)) (fun i => mask_iff m c _) _ ?_
  refine Finset.filter_true_of_mem fun i _ => funext fun a => Fin.ext ?_
  have h1 := (reduces_S1x1x1024_S1.drop i a).isLt
  have h2 : ∀ a : Fin 1, S1.size a = 1 := by decide
  have h3 := h2 a
  have h4 : ∀ j : S1.Idx, (j a).val = 0 := fun j => by have := (j a).isLt; omega
  rw [h4, h4]

/-- What the precondition says of a block of destinations. -/
def Half (d : IVec S1024 32) : Prop := count d 0#32 = 512 ∧ count d 1#32 = 512

theorem reduce_count (d : IVec S1024 32) (b : BitVec 32) [Cert.Pre_balanced_Kernel.Facts] (j) :
    Host.reduce IntOp.addi ((extui 32 · natLt_1_32) (cmpi .eq d (broadcastInDim S1024 ![] Cert.Pre_balanced_Kernel.Facts.bcast_S_S1024 (constantI S_ 32 b))))
      (constantI S_ 32 0#32) Cert.Pre_balanced_Kernel.Facts.reducesTo_S1024_S_d0 Cert.Pre_balanced_Kernel.Facts.h_S_ j = BitVec.ofNat 32 (count d b) := by
  rw [Host.reduce_eq_fold]
  refine fold_count (Equiv.refl _) d b (cmpi .eq d (broadcastInDim S1024 ![] Cert.Pre_balanced_Kernel.Facts.bcast_S_S1024 (constantI S_ 32 b))) (fun i => ?_) _ ?_
  · rw [cmpi_eq_one]; exact Iff.rfl
  · exact Finset.filter_true_of_mem fun i _ => funext fun a => a.elim0

theorem half_of_pre [Cert.Pre_balanced_Kernel.Facts] (x : FVec F S1024x512 .f32) (d : IVec S1024 32)
    (h : Cert.Pre_balanced_Kernel.fn (F := F) x d = fun _ => 1#1) : Half d := by
  have h0 := congrFun h (fun a => a.elim0)
  obtain ⟨h1, h2⟩ := IntOp.andi_eq_one.1 (show IntOp.andi _ _ = 1#1 from h0)
  have e1 := (cmpi_eq_one _ _ _).1 h1
  have e2 := (cmpi_eq_one _ _ _).1 h2
  have r1 := (reduce_count d 0#32 _).symm.trans e1
  have r2 := (reduce_count d 1#32 _).symm.trans e2
  have c1 := count_le d 0#32
  have c2 := count_le d 1#32
  have t1 : count d 0#32 % 2 ^ 32 = 512 := congrArg BitVec.toNat r1
  have t2 : count d 1#32 % 2 ^ 32 = 512 := congrArg BitVec.toNat r2
  exact ⟨by omega, by omega⟩

theorem nSelf_half (c : Dev nD) (h : Half (dv m c)) : nSelf m c = 512#32 := by
  rw [nSelf_eq]
  unfold side
  split
  · rw [h.1]
  · rw [h.2]
theorem nGive_half (c : Dev nD) (h : Half (dv m c)) : nGive m c = 512#32 := by
  unfold nGive; rw [nSelf_half m c h]; rfl

end Cert.Exchange

end
-- ==== Proof.Frames.lean ====
/-
# The frames

The kernel's run, with floats as words and as extended reals; the reference's run.
-/
module

public import proofs.«01_k».proof.Proof.Launch
public import proofs.«01_k».proof.Proof.Count
public import proofs.«01_k».proof.Defs
public import proofs.«01_k».proof.Proof.Gen.Kernel
public import proofs.«01_k».proof.Proof.Gen.Pre_balanced_Kernel
public import proofs.«01_k».proof.Proof.Gen.Pre_balanced_ReferenceIdeal
public import proofs.«01_k».proof.Proof.Gen.ReferenceIdeal.Run

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_balanced_Kernel.Facts := Cert.Pre_balanced_Kernel.Gen.facts
local instance : Cert.Pre_balanced_ReferenceIdeal.Facts := Cert.Pre_balanced_ReferenceIdeal.Gen.facts

theorem give_of_pre (h : ∀ c : Dev nD, Cert.Pre_balanced_Kernel.fn (F := F) (xv m c) (dv m c) = fun _ => 1#1) (c : Dev nD) : nGive m c = 512#32 :=
  nGive_half m c (half_of_pre (xv m c) (dv m c) (h c))

/-- The kernel's run, at whatever floats: what it leaves and that every counter is back at zero. -/
theorem run_kept (ρ : Dev nD → PrngReg) (h : ∀ c : Dev nD, Cert.Pre_balanced_Kernel.fn (F := F) (xv m c) (dv m c) = fun _ => 1#1) :
    θ_run defs (onTc (τ := τ) (main (F := F))) ⟨m, fun _ => 0, ρ⟩ (fun r => (∀ c : Dev nD,
      r.2.mem (c.tc.loc main_arg0) = m (c.tc.loc main_arg0) ∧ r.2.mem (c.tc.loc main_arg1) = m (c.tc.loc main_arg1)) ∧ r.2.sem = fun _ => 0) :=
  (θ_run defs _ _).mono (fun _ h => ⟨fun c => (h.1 c).2, h.2⟩) (run_main (F := F) m ρ (give_of_pre (F := F) m h))

/-- The two texts are one, so the two body tables are: at the one label, the same function on the same operands. -/
theorem defs₀_same : (Cert.Kernel.defs₀ (F := Bits) : Defs nD τ sig (Elt Bits) Λ₀) = Cert.KernelIdeal.defs₀ (F := Bits) := by
  unfold Cert.Kernel.defs₀ Cert.KernelIdeal.defs₀
  refine congrArg Defs.onTc ?_
  funext l
  fin_cases l
  funext a
  rfl

theorem defs_same : (Cert.Kernel.defs (F := Bits) : Defs nD τ sig (Elt Bits) (Pipeline.Sig Λ₀ (Fin 1) fun p => (pcfgs (F := Bits) p).Adm)) = Cert.KernelIdeal.defs (F := Bits) :=
  congrArg (Pipeline.defs (pcfgs (F := Bits))) defs₀_same

theorem frame_kernel : Cert.quiescent_Kernel := fun m ρ hp => by
  have h := run_kept (F := Bits) m ρ hp
  rw [← defs_same] at h
  exact h

theorem frame_kernelIdeal : Cert.quiescent_KernelIdeal := fun m ρ hp => run_kept (F := Ideal) m ρ hp

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_balanced : Cert.quiescent_ReferenceIdeal_pre_balanced_ReferenceIdeal := fun m ρ _ => frame_reference m ρ trivial

end Cert.Exchange

end
-- ==== Proof.Ranks.lean ====
/-
# Counting below a position

How many marked positions lie below a position; the numbering of the positions that puts the unmarked ones first; and
the place of a position in a stable sort by keys 0 and 1, of an array cut in two blocks.
-/
module

public import Idealize.ShloMosaic.Lib.SortFacts
public import Mathlib.Tactic.Linarith
public import Mathlib.Order.Fin.Basic

@[expose] public section

noncomputable section

namespace Cert.Exchange

open Idealize.ShloMosaic

/-- How many positions below `j` are marked. -/
def below {n : ℕ} (A : Fin n → Prop) [DecidablePred A] (j : Fin n) : ℕ := (Finset.univ.filter fun i => i < j ∧ A i).card
/-- How many positions are marked. -/
def total {n : ℕ} (A : Fin n → Prop) [DecidablePred A] : ℕ := (Finset.univ.filter fun i => A i).card

section Rank
variable {n : ℕ} (A : Fin n → Prop) [DecidablePred A]

theorem below_lt_total {j : Fin n} (h : A j) : below A j < total A :=
  Finset.card_lt_card ⟨fun i hi => by simp only [Finset.mem_filter, Finset.mem_univ, true_and] at hi ⊢; exact hi.2,
    fun hs => by
      have := hs (show j ∈ Finset.univ.filter fun i => A i by simpa using h)
      simp at this⟩

theorem below_lt_below {i j : Fin n} (hij : i < j) (h : A i) : below A i < below A j :=
  Finset.card_lt_card ⟨fun a ha => by
      simp only [Finset.mem_filter, Finset.mem_univ, true_and] at ha ⊢; exact ⟨ha.1.trans hij, ha.2⟩,
    fun hs => by
      have := hs (show i ∈ Finset.univ.filter fun a => a < j ∧ A a by simpa using ⟨hij, h⟩)
      simp at this⟩

theorem below_inj {i j : Fin n} (hi : A i) (hj : A j) (h : below A i = below A j) : i = j := by
  rcases lt_trichotomy i j with hl | hl | hl
  · exact absurd h (below_lt_below A hl hi).ne
  · exact hl
  · exact absurd h.symm (below_lt_below A hl hj).ne

theorem total_add_not : total A + total (fun i => ¬A i) = n := by
  unfold total
  rw [Finset.card_filter_add_card_filter_not]
  simp

/-- The marked positions up to and with `j`. -/
theorem card_le_eq (j : Fin n) : (Finset.univ.filter fun i => i ≤ j ∧ A i).card = below A j + if A j then 1 else 0 := by
  unfold below
  by_cases h : A j
  · rw [if_pos h, ← Finset.card_insert_of_notMem (a := j) (by simp)]
    congr 1
    ext i
    simp only [Finset.mem_filter, Finset.mem_univ, true_and, Finset.mem_insert]
    constructor
    · rintro ⟨h1, h2⟩
      rcases h1.lt_or_eq with h3 | h3
      · exact Or.inr ⟨h3, h2⟩
      · exact Or.inl h3
    · rintro (rfl | ⟨h1, h2⟩)
      · exact ⟨le_refl _, h⟩
      · exact ⟨h1.le, h2⟩
  · rw [if_neg h, Nat.add_zero]
    congr 1
    ext i
    simp only [Finset.mem_filter, Finset.mem_univ, true_and]
    constructor
    · rintro ⟨h1, h2⟩
      exact ⟨lt_of_le_of_ne h1 fun e => h (e ▸ h2), h2⟩
    · rintro ⟨h1, h2⟩
      exact ⟨h1.le, h2⟩

/-- The positions below `j` are the marked and the unmarked ones. -/
theorem below_add_not (j : Fin n) : below A j + below (fun i => ¬A i) j = j.val := by
  unfold below
  rw [← Finset.filter_filter, ← Finset.filter_filter, Finset.card_filter_add_card_filter_not]
  have : (Finset.univ.filter fun i : Fin n => i < j) = Finset.Iio j := by ext; simp
  rw [this, Fin.card_Iio]

/-- The unmarked positions first, in order, then the marked ones, in order. -/
def order (j : Fin n) : ℕ := if A j then total (fun i => ¬A i) + below A j else below (fun i => ¬A i) j

theorem order_lt (j : Fin n) : order A j < n := by
  have h := total_add_not A
  unfold order
  split
  · next hj => have := below_lt_total A hj; omega
  · next hj => have := below_lt_total (fun i => ¬A i) hj; omega

theorem order_inj {i j : Fin n} (h : order A i = order A j) : i = j := by
  unfold order at h
  split at h <;> split at h
  · next hi hj => exact below_inj A hi hj (by omega)
  · next hi hj => have := below_lt_total (fun i => ¬A i) hj; omega
  · next hi hj => have := below_lt_total (fun i => ¬A i) hi; omega
  · next hi hj => exact below_inj (fun i => ¬A i) hi hj h

theorem order_surj (r : Fin n) : ∃ j, order A j = r.val := by
  have hinj : Function.Injective fun j : Fin n => (⟨order A j, order_lt A j⟩ : Fin n) :=
    fun i j h => order_inj A (congrArg Fin.val h)
  obtain ⟨j, hj⟩ := (Finite.injective_iff_surjective.1 hinj) r
  exact ⟨j, congrArg Fin.val hj⟩

end Rank

/-! ## A stable sort -/

section Stable
variable {n : ℕ} (key : Fin n → ℕ)

/-- The key with the position as a tie-break, as one number. -/
def weight (e : Fin n) : ℕ := key e * n + e.val

theorem weight_lt_iff (a b : Fin n) : weight key a < weight key b ↔ key a < key b ∨ (key a = key b ∧ a.val < b.val) := by
  unfold weight
  have ha := a.isLt
  have hb := b.isLt
  rcases lt_trichotomy (key a) (key b) with h | h | h
  · have : (key a + 1) * n ≤ key b * n := Nat.mul_le_mul_right _ h
    rw [Nat.succ_mul] at this
    constructor
    · intro _; exact Or.inl h
    · intro _; omega
  · rw [h]; constructor
    · intro h'; exact Or.inr ⟨rfl, by omega⟩
    · rintro (h' | h')
      · omega
      · omega
  · have : (key b + 1) * n ≤ key a * n := Nat.mul_le_mul_right _ h
    rw [Nat.succ_mul] at this
    constructor
    · intro h'; omega
    · rintro (h' | h') <;> omega

theorem weight_inj {a b : Fin n} (h : weight key a = weight key b) : a = b := by
  have h1 := weight_lt_iff key a b
  have h2 := weight_lt_iff key b a
  apply Fin.ext
  have h3 : ¬(key a < key b ∨ (key a = key b ∧ a.val < b.val)) := fun h' => by have := h1.2 h'; omega
  have h4 : ¬(key b < key a ∨ (key b = key a ∧ b.val < a.val)) := fun h' => by have := h2.2 h'; omega
  omega

/-- A stable sort by the keys is a sort by the weights: an element is only ever compared with later ones. -/
theorem stableSort_weight (l : List (Fin n)) (hl : l.Pairwise (· < ·)) :
    stableSort (fun a b => decide (key a < key b)) l = stableSort (fun a b => decide (weight key a < weight key b)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have := weight_lt_iff key b a
    have hab' : a.val < b.val := hab
    refine decide_eq_decide.2 ⟨fun h => this.2 (Or.inl h), fun h => ?_⟩
    rcases this.1 h with h | h
    · exact h
    · omega

theorem sortedFrom_weight :
    sortedFrom (fun a b => decide (key a < key b)) = sortedFrom (fun a b => decide (weight key a < weight key b)) := by
  funext k
  unfold sortedFrom
  rw [List.get_of_eq (show sortPositions n _ = sortPositions n _ from stableSort_weight key _ (List.pairwise_lt_finRange n))]
  rfl

/-- Where the sort puts position `e`: behind every position of smaller weight. -/
def placeOf (e : Fin n) : ℕ := (Finset.univ.filter fun e' => weight key e' < weight key e).card

theorem placeOf_lt (e : Fin n) : placeOf key e < n := by
  have : placeOf key e < (Finset.univ : Finset (Fin n)).card :=
    Finset.card_lt_card ⟨Finset.filter_subset _ _, fun hs => by have := hs (Finset.mem_univ e); simp at this⟩
  simpa using this

theorem placeOf_mono {a b : Fin n} (h : weight key a < weight key b) : placeOf key a < placeOf key b :=
  Finset.card_lt_card ⟨fun e he => by
      simp only [Finset.mem_filter, Finset.mem_univ, true_and] at he ⊢; exact he.trans h,
    fun hs => by
      have := hs (show a ∈ Finset.univ.filter fun e' => weight key e' < weight key b by simpa using h)
      simp at this⟩

/-- The stable sort reads, at the place of `e`, position `e`. -/
theorem sortedFrom_placeOf (e : Fin n) :
    sortedFrom (fun a b => decide (key a < key b)) ⟨placeOf key e, placeOf_lt key e⟩ = e := by
  rw [sortedFrom_weight]
  generalize hσ : sortedFrom (fun a b => decide (weight key a < weight key b)) = σ
  have hno : ∀ i j : Fin n, i < j → weight key (σ i) < weight key (σ j) := fun i j hij => by
    have h := sortedFrom_noInversion (fun a b => decide (weight key a < weight key b)) (fun a b => decide (weight key a < weight key b))
      (fun a b h => by simp only [decide_eq_true_eq, decide_eq_false_iff_not] at h ⊢; omega) (fun a b h => h)
      (fun a b c h h' => by simp only [decide_eq_false_iff_not] at h h' ⊢; omega) i j hij
    have hinj := sortedFrom_injective (fun a b => decide (weight key a < weight key b))
    rw [hσ] at h hinj
    simp only [decide_eq_false_iff_not] at h
    have hne : weight key (σ i) ≠ weight key (σ j) := fun h' => hij.ne (hinj (weight_inj key h'))
    omega
  have hm : StrictMono fun i : Fin n => (⟨placeOf key (σ i), placeOf_lt key _⟩ : Fin n) :=
    fun i j hij => placeOf_mono key (hno i j hij)
  have hid : ∀ i : Fin n, placeOf key (σ i) = i.val := fun i => by
    have h : (⟨placeOf key (σ i), placeOf_lt key _⟩ : Fin n) = i := le_antisymm hm.apply_le hm.le_apply
    exact congrArg Fin.val h
  have hs : Function.Surjective σ := hσ ▸ sortedFrom_surjective _
  obtain ⟨i, hi⟩ := hs e
  subst hi
  exact congrArg σ (Fin.ext (hid i))

end Stable

/-! ## Two blocks -/

section Blocks
variable {n N : ℕ} (hN : N = n + n) (key : Fin N → ℕ)

/-- The position of row `j` of block `q`. -/
def inBlock (q : Fin 2) (j : Fin n) : Fin N := ⟨n * q.val + j.val, by
  have := j.isLt
  have h : q.val = 0 ∨ q.val = 1 := by omega
  rcases h with h | h <;> rw [h] <;> omega⟩

theorem card_blocks (A : Fin N → Prop) [DecidablePred A] :
    (Finset.univ.filter fun e => A e).card
      = (Finset.univ.filter fun i : Fin n => A (inBlock hN 0 i)).card + (Finset.univ.filter fun i : Fin n => A (inBlock hN 1 i)).card := by
  subst hN
  rw [Finset.card_filter, Finset.card_filter, Finset.card_filter, Fin.sum_univ_add]
  refine congrArg₂ (· + ·) (Finset.sum_congr rfl fun i _ => ?_) (Finset.sum_congr rfl fun i _ => ?_)
  · have : Fin.castAdd n i = inBlock rfl 0 i := Fin.ext (by simp [inBlock])
    rw [this]
  · have : Fin.natAdd n i = inBlock rfl 1 i := Fin.ext (by show n + i.val = n * 1 + i.val; omega)
    rw [this]

/-- The positions of a block with a smaller key, and those with this key and `C`. -/
theorem card_mix (h : ℕ) (K : Fin n → ℕ) (h0 : total (fun i => K i = 0) = h) (b : ℕ) (hb : b = 0 ∨ b = 1)
    (C : Fin n → Prop) [DecidablePred C] :
    (Finset.univ.filter fun i => K i < b ∨ (K i = b ∧ C i)).card = h * b + (Finset.univ.filter fun i => K i = b ∧ C i).card := by
  rcases hb with rfl | rfl
  · rw [Nat.mul_zero, Nat.zero_add]
    refine congrArg Finset.card (Finset.filter_congr fun i _ => ?_)
    exact ⟨fun h => h.resolve_left (Nat.not_lt_zero _), Or.inr⟩
  · rw [Nat.mul_one, Finset.filter_or, Finset.card_union_of_disjoint]
    · refine congrArg (· + _) ?_
      rw [← h0]
      refine congrArg Finset.card (Finset.filter_congr fun i _ => ?_)
      omega
    · refine Finset.disjoint_filter.2 fun i _ h1 h2 => ?_
      omega

/-- With keys 0 and 1, as many of each in each block: where the sort puts row `j` of block `q`. -/
theorem placeOf_inBlock (h : ℕ) (hk : ∀ e, key e = 0 ∨ key e = 1) (ht : ∀ q : Fin 2, total (fun i : Fin n => key (inBlock hN q i) = 0) = h)
    (hn : ∀ q : Fin 2, total (fun i : Fin n => key (inBlock hN q i) = 1) = h) (q : Fin 2) (j : Fin n) :
    placeOf key (inBlock hN q j) = n * key (inBlock hN q j) + h * q.val + below (fun i => key (inBlock hN q i) = key (inBlock hN q j)) j := by
  have h2 : n = 2 * h := by
    have := total_add_not (fun i : Fin n => key (inBlock hN 0 i) = 0)
    rw [ht 0] at this
    have e : total (fun i : Fin n => ¬key (inBlock hN 0 i) = 0) = h := by
      rw [← hn 0]
      refine congrArg Finset.card (Finset.filter_congr fun i _ => ?_)
      have := hk (inBlock hN 0 i)
      omega
    omega
  have hin : ∀ (q' : Fin 2) (i : Fin n), (inBlock hN q' i).val = n * q'.val + i.val := fun _ _ => rfl
  -- what one block adds
  have hb : ∀ q' : Fin 2, (Finset.univ.filter fun i : Fin n => weight key (inBlock hN q' i) < weight key (inBlock hN q j)).card
      = h * key (inBlock hN q j) + (Finset.univ.filter fun i : Fin n => key (inBlock hN q' i) = key (inBlock hN q j) ∧ n * q'.val + i.val < n * q.val + j.val).card := fun q' => by
    rw [← card_mix h (fun i => key (inBlock hN q' i)) (ht q') _ (hk _)]
    refine congrArg Finset.card (Finset.filter_congr fun i _ => ?_)
    rw [weight_lt_iff, hin, hin]
  -- a block before, this block, a block behind
  have hsame : (Finset.univ.filter fun i : Fin n => key (inBlock hN q i) = key (inBlock hN q j) ∧ n * q.val + i.val < n * q.val + j.val).card
      = below (fun i => key (inBlock hN q i) = key (inBlock hN q j)) j := by
    refine congrArg Finset.card (Finset.filter_congr fun i _ => ?_)
    have : i < j ↔ i.val < j.val := Iff.rfl
    constructor
    · rintro ⟨h1, h2⟩; exact ⟨this.2 (by omega), h1⟩
    · rintro ⟨h1, h2⟩; exact ⟨h2, by have := this.1 h1; omega⟩
  have hall : (Finset.univ.filter fun i : Fin n => key (inBlock hN 0 i) = key (inBlock hN q j) ∧ n * 0 + i.val < n * 1 + j.val).card = h := by
    have : (Finset.univ.filter fun i : Fin n => key (inBlock hN 0 i) = key (inBlock hN q j)).card = h := by
      rcases hk (inBlock hN q j) with e | e <;> rw [e]
      · exact ht 0
      · exact hn 0
    rw [← this]
    refine congrArg Finset.card (Finset.filter_congr fun i _ => ?_)
    have := i.isLt
    constructor
    · exact fun h => h.1
    · exact fun h => ⟨h, by omega⟩
  have hnone : (Finset.univ.filter fun i : Fin n => key (inBlock hN 1 i) = key (inBlock hN q j) ∧ n * 1 + i.val < n * 0 + j.val).card = 0 := by
    rw [Finset.card_eq_zero, Finset.filter_eq_empty_iff]
    rintro i _ ⟨_, h⟩
    have := j.isLt
    omega
  unfold placeOf
  rw [card_blocks hN, hb 0, hb 1]
  have e2 : n * key (inBlock hN q j) = 2 * (h * key (inBlock hN q j)) := by rw [← Nat.mul_assoc, ← h2]
  have hq : q = 0 ∨ q = 1 := by
    have h : q.val = 0 ∨ q.val = 1 := by omega
    exact h.imp Fin.ext Fin.ext
  rcases hq with rfl | rfl
  · rw [hsame]
    refine (congrArg (_ + ·) (congrArg (_ + ·) hnone)).trans ?_
    show _ = _ + h * 0 + _
    omega
  · rw [hsame]
    refine (congrArg (· + _) (congrArg (_ + ·) hall)).trans ?_
    show _ = _ + h * 1 + _
    omega

end Blocks

end Cert.Exchange

end
-- ==== Proof.Ranked.lean ====
/-
# A device's sorted rows, over the extended reals

The running counts are counts; a row's rank is its place in the order that puts the rows to give away first; and the
one-hot products put each row at its rank.
-/
module

public import proofs.«01_k».proof.Proof.Count
public import proofs.«01_k».proof.Proof.Ranks
public import Idealize.ShloMosaic.Lib.MatmulPlain
public import Idealize.ShloMosaic.Lib.ValueLayout
public import Idealize.ShloMosaic.Lib.StableHlo.Predicate

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable (m : (ℓ : Loc nD τ sig) → Buf (Elt Ideal) ℓ)

/-! ## Words and extended reals -/

/-- A one-bit word as an extended real. -/
theorem bit_real (b : BitVec 1) : (FloatOps.sitofp .f32 (b.setWidth 32) : Ideal .f32) = if b = 1#1 then (1 : EReal) else 0 := by
  have h : ∀ b : BitVec 1, b = 0#1 ∨ b = 1#1 := by decide
  show (((b.setWidth 32).toInt : ℝ) : EReal) = _
  rcases h b with rfl | rfl
  · rw [if_neg (by decide)]; norm_num
  · rw [if_pos rfl]; norm_num

/-- A small whole number, narrowed to a word. -/
theorem fptosi_nat (k : ℕ) (hk : k < 2 ^ 31) : FloatOps.fptosi (F := Ideal) (φ := .f32) 32 ((k : ℕ) : EReal) = BitVec.ofNat 32 k := by
  have hc : ((k : ℕ) : EReal) = (((k : ℕ) : ℝ) : EReal) := (EReal.coe_natCast).symm
  rw [hc]
  show Ideal.fptosi 32 (((k : ℕ) : ℝ) : EReal) = _
  rw [Ideal.fptosi, Ideal.toIntClamped_coe, if_pos (by positivity), Int.floor_natCast]
  have hv : max (-((2 ^ (32 - 1) : ℕ) : ℤ)) (min (((2 ^ (32 - 1) : ℕ) : ℤ) - 1) ((k : ℕ) : ℤ)) = ((k : ℕ) : ℤ) := by
    norm_num at hk ⊢
    omega
  rw [hv]
  exact BitVec.ofInt_natCast ..

/-- A sum of products of marks counts. -/
theorem sum_marks {n : ℕ} (P Q : Fin n → Prop) [DecidablePred P] [DecidablePred Q] :
    (∑ k : Fin n, (if P k then (1 : EReal) else 0) * (if Q k then (1 : EReal) else 0)) = (((Finset.univ.filter fun k => Q k ∧ P k).card : ℕ) : EReal) := by
  rw [← Finset.sum_boole]
  refine Finset.sum_congr rfl fun k _ => ?_
  by_cases hp : P k <;> by_cases hq : Q k <;> simp [hp, hq]

/-! ## Ranks -/

/-- The rows that stay on the device. -/
def keep (c : Dev nD) (j : Fin 1024) : Prop := dv m c (ix1 j) = side c
instance (c : Dev nD) : DecidablePred (keep m c) := fun _ => inferInstanceAs (Decidable (_ = _))

theorem mask_keep (c : Dev nD) (j : Fin 1024) : mask m c (ix2 0 j) = 1#1 ↔ keep m c j := by
  rw [mask_iff]
  show Iff (shapeCast S1x1024 (dv m c) shapeCasts_S1024_S1x1024 (ix2 0 j) = side c) _
  rw [shapeCast_a_1a_apply]
  exact Iff.rfl

theorem sle_words {a b : ℕ} (ha : a < 1024) (hb : b < 1024) : (IntOp.cmpi .sle (BitVec.ofNat 32 a) (BitVec.ofNat 32 b) : BitVec 1) = 1#1 ↔ a ≤ b := by
  show BitVec.ofBool ((BitVec.ofNat 32 a).sle (BitVec.ofNat 32 b)) = 1#1 ↔ _
  rw [BitVec.sle_eq_decide, StableHlo.Predicate.toInt_ofNat_small a (by omega), StableHlo.Predicate.toInt_ofNat_small b (by omega)]
  by_cases h : a ≤ b
  · rw [decide_eq_true (by omega)]; simp [h]
  · rw [decide_eq_false (by omega)]; simp [h]

/-- The running count of the staying rows. -/
theorem incl_apply (c : Dev nD) (j : Fin 1024) :
    incl m c (ix2 0 j) = BitVec.ofNat 32 (below (keep m c) j + if keep m c j then 1 else 0) := by
  rw [← card_le_eq]
  have hc : (Finset.univ.filter fun i => i ≤ j ∧ keep m c i).card ≤ 1024 := by
    refine (Finset.card_filter_le _ _).trans ?_
    simp
  rw [← fptosi_nat _ (by omega)]
  unfold incl k0_pay3
  show FloatOps.fptosi 32 _ = _
  refine congrArg (FloatOps.fptosi 32) ?_
  refine (Ideal.matmul_plain_apply (M := 1) (K := 1024) (N := 1024) none _ _ _ 0 j).trans ?_
  rw [← sum_marks]
  refine (congrArg (· + _) Ideal.ofBits_zero_f32).trans ((zero_add _).trans ?_)
  refine Finset.sum_congr rfl fun k _ => ?_
  refine congrArg₂ (· * ·) ?_ ?_
  · refine (bit_real (mask m c (ix2 0 k))).trans ?_
    simp only [mask_keep]
  · refine (bit_real _).trans ?_
    have : (cmpi .sle (iota .tc S1024x1024 32 [0] iota_S1024x1024_d0_w32) (iota .tc S1024x1024 32 [1] iota_S1024x1024_d1_w32) (ix2 k j) = 1#1) ↔ k ≤ j := by
      show IntOp.cmpi .sle (iota .tc S1024x1024 32 [0] iota_S1024x1024_d0_w32 (ix2 k j)) (iota .tc S1024x1024 32 [1] iota_S1024x1024_d1_w32 (ix2 k j)) = 1#1 ↔ _
      rw [iota_single_apply, iota_single_apply]
      exact sle_words k.isLt j.isLt
    simp only [this]

theorem mdi_apply (c : Dev nD) (j : Fin 1024) : mdi m c (ix2 0 j) = BitVec.ofNat 32 (if keep m c j then 1 else 0) := by
  show (mask m c (ix2 0 j)).setWidth 32 = _
  have h := mask_keep m c j
  have hb : ∀ b : BitVec 1, b = 0#1 ∨ b = 1#1 := by decide
  rcases hb (mask m c (ix2 0 j)) with e | e <;> rw [e] at h ⊢
  · rw [if_neg fun h' => absurd (h.2 h') (by decide)]; rfl
  · rw [if_pos (h.1 rfl)]; rfl

theorem count_total (d : IVec S1024 32) (b : BitVec 32) : count d b = total fun i : Fin 1024 => d (ix1 i) = b := by
  refine (Finset.card_equiv ⟨fun i : Fin 1024 => (ix1 i : S1024.Idx), fun i => i 0, fun _ => rfl, fun i => (eq_ix1 i).symm⟩ fun i => ?_).symm
  simp only [Finset.mem_filter, Finset.mem_univ, true_and]
  exact Iff.rfl

/-- In a balanced block every destination is 0 or 1. -/
theorem half_bits (d : IVec S1024 32) (h : Half d) (i : Fin 1024) : d (ix1 i) = 0#32 ∨ d (ix1 i) = 1#32 := by
  by_contra hc
  rw [not_or] at hc
  have h0 := h.1
  have h1 := h.2
  rw [count_total] at h0 h1
  have ha := total_add_not fun i : Fin 1024 => d (ix1 i) = 0#32
  have hlt : total (fun i : Fin 1024 => d (ix1 i) = 1#32) < total fun i : Fin 1024 => ¬d (ix1 i) = 0#32 :=
    Finset.card_lt_card ⟨fun a ha => by
        simp only [Finset.mem_filter, Finset.mem_univ, true_and] at ha ⊢; rw [ha]; decide,
      fun hs => by
        have := hs (show i ∈ Finset.univ.filter fun i : Fin 1024 => ¬d (ix1 i) = 0#32 by simpa using hc.1)
        simp at this; exact hc.2 this⟩
  omega

theorem keep_total (c : Dev nD) (h : Half (dv m c)) : total (keep m c) = 512 := by
  have : total (keep m c) = count (dv m c) (side c) := (count_total _ _).symm
  rw [this]
  unfold side
  split
  · exact h.1
  · exact h.2

/-- A row's rank is its place: the rows to give away first, then the rows that stay. -/
theorem rank_apply (c : Dev nD) (h : Half (dv m c)) (j : Fin 1024) : rank m c (ix2 0 j) = BitVec.ofNat 32 (order (keep m c) j) := by
  have ht := keep_total m c h
  have hn := total_add_not (keep m c)
  have hb := below_add_not (keep m c) j
  have hj := j.isLt
  unfold rank k0_pay5
  show Scalar.select (mask m c (ix2 0 j)) (IntOp.addi (Scalar.subi 1024#32 (nSelf m c)) (IntOp.subi (incl m c (ix2 0 j)) (mdi m c (ix2 0 j))))
    (IntOp.addi (IntOp.subi (iota .tc S1x1024 32 [1] iota_S1x1024_d1_w32 (ix2 0 j)) (incl m c (ix2 0 j))) (mdi m c (ix2 0 j))) = _
  rw [nSelf_half m c h, incl_apply, mdi_apply, iota_single_apply]
  unfold order
  have hb1 : ∀ b : BitVec 1, b = 0#1 ∨ b = 1#1 := by decide
  have hm := mask_keep m c j
  by_cases hk : keep m c j
  · rw [hm.2 hk, select_one, if_pos hk, if_pos hk]
    have hl := below_lt_total (keep m c) hk
    show (1024#32 - 512#32) + (BitVec.ofNat 32 (below (keep m c) j + 1) - BitVec.ofNat 32 1) = _
    apply BitVec.eq_of_toNat_eq
    simp only [BitVec.toNat_add, BitVec.toNat_sub, BitVec.toNat_ofNat]
    omega
  · rw [(hb1 _).resolve_right fun h' => hk (hm.1 h'), select_zero, if_neg hk, if_neg hk]
    show (BitVec.ofNat 32 j.val - BitVec.ofNat 32 (below (keep m c) j + 0)) + BitVec.ofNat 32 0 = _
    apply BitVec.eq_of_toNat_eq
    simp only [BitVec.toNat_add, BitVec.toNat_sub, BitVec.toNat_ofNat]
    omega

/-! ## One-hot products -/

theorem hot_iff (k : Fin 16) (r : Fin 64) {o : ℕ} (ho : o < 1024) :
    (IntOp.cmpi .eq (IntOp.addi (BitVec.ofNat 32 r.val) (BitVec.ofNat 32 (64 * k.val))) (BitVec.ofNat 32 o) : BitVec 1) = 1#1 ↔ 64 * k.val + r.val = o := by
  show BitVec.ofBool (BitVec.ofNat 32 r.val + BitVec.ofNat 32 (64 * k.val) == BitVec.ofNat 32 o) = 1#1 ↔ _
  have hk := k.isLt
  have hr := r.isLt
  have : (BitVec.ofNat 32 r.val + BitVec.ofNat 32 (64 * k.val) == BitVec.ofNat 32 o) = decide (64 * k.val + r.val = o) := by
    rw [← BitVec.ofNat_add]
    by_cases h : 64 * k.val + r.val = o
    · rw [decide_eq_true h, ← h, Nat.add_comm]; simp
    · rw [decide_eq_false h]
      simp only [beq_eq_false_iff_ne, ne_eq]
      intro he
      have := congrArg BitVec.toNat he
      simp only [BitVec.toNat_ofNat] at this
      omega
  rw [this]
  by_cases h : 64 * k.val + r.val = o
  · simp [h]
  · simp [h]

/-- Chunk `k` of the sorted rows holds, in its row `r`, the row of rank `64 k + r`. -/
theorem chunk_apply (c : Dev nD) (h : Half (dv m c)) (k : Fin 16) (r : Fin 64) (l : Fin 512) (j : Fin 1024)
    (hj : order (keep m c) j = 64 * k.val + r.val) (xs : Vec Ideal S1024x512 .bf16) :
    chunkVal k (rank m c) xs (ix2 r l) = xs (ix2 j l) := by
  unfold chunkVal
  rw [shapeCast_self]
  refine (Ideal.matmul_plain_apply (φ₁ := .bf16) (φ₂ := .bf16) (M := 64) (K := 1024) (N := 512) none _ xs _ r l).trans ?_
  refine (congrArg (· + _) Ideal.ofBits_zero_f32).trans ((zero_add _).trans ?_)
  have hot : ∀ i : Fin 1024, (truncf .bf16 (sitofp .f32 (extui 32
      (cmpi .eq (addi (iota .tc S64x1024 32 [0] iota_S64x1024_d0_w32) (broadcast S64x1024 (BitVec.ofNat 32 (64 * k.val))))
        (broadcastTo S64x1024 (rank m c) broadcasts_S1x1024_S64x1024)) natLt_1_32)) bitsLt_bf16_f32 : FVec Ideal S64x1024 .bf16) (ix2 r i)
      = if order (keep m c) i = 64 * k.val + r.val then (1 : EReal) else 0 := fun i => by
    refine (bit_real _).trans ?_
    have : (cmpi .eq (addi (iota .tc S64x1024 32 [0] iota_S64x1024_d0_w32) (broadcast S64x1024 (BitVec.ofNat 32 (64 * k.val))))
        (broadcastTo S64x1024 (rank m c) broadcasts_S1x1024_S64x1024) (ix2 r i) = 1#1) ↔ order (keep m c) i = 64 * k.val + r.val := by
      show IntOp.cmpi .eq (IntOp.addi (iota .tc S64x1024 32 [0] iota_S64x1024_d0_w32 (ix2 r i)) (BitVec.ofNat 32 (64 * k.val)))
        (broadcastTo S64x1024 (rank m c) broadcasts_S1x1024_S64x1024 (ix2 r i)) = 1#1 ↔ _
      rw [iota_single_apply, broadcastTo_1b_ab_apply, rank_apply m c h]
      exact (hot_iff k r (order_lt _ i)).trans eq_comm
    simp only [this]
  refine (Finset.sum_eq_single j (fun i _ hi => ?_) fun hn => absurd (Finset.mem_univ j) hn).trans ?_
  · refine (congrArg (· * _) (hot i)).trans ?_
    rw [if_neg fun e => hi (order_inj (keep m c) (e.trans hj.symm))]
    exact zero_mul _
  · refine (congrArg (· * _) (hot j)).trans ?_
    rw [if_pos hj]
    exact one_mul _

/-- The sorted rows hold each row at its place. -/
theorem sorted_apply (c : Dev nD) (h : Half (dv m c)) (r : Fin 1024) (l : Fin 512) (j : Fin 1024) (hj : order (keep m c) j = r.val) :
    XL m c (ix2 r l) = xv m c (ix2 j l) := by
  have hr := r.isLt
  have hjo : jOf (ix2 r l : S1024x512.Idx) = ix2 (⟨r.val % 64, Nat.mod_lt _ (by decide)⟩ : Fin 64) l := by
    funext a
    match a with
    | ⟨0, _⟩ => rfl
    | ⟨1, _⟩ => rfl
  unfold XL
  rw [hjo]
  refine (chunk_apply m c h _ _ l j (hj.trans ?_) _).trans ?_
  · show r.val = 64 * (r.val / 64) + r.val % 64
    omega
  · unfold xsv k0_pay6
    rw [shapeCast_self]
    rfl

end Cert.Exchange

end
-- ==== Proof.Placed.lean ====
/-
# A device's result, over the extended reals

Each row of the result is one row of the device's own block or of its partner's, and which one is said by counting.
-/
module

public import proofs.«01_k».proof.Proof.Finish
public import proofs.«01_k».proof.Proof.Ranked
public import Idealize.ShloMosaic.Lib.KernelVsHost

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable (m : (ℓ : Loc nD τ sig) → Buf (Elt Ideal) ℓ)

theorem below_congr {n : ℕ} {A B : Fin n → Prop} [DecidablePred A] [DecidablePred B] (h : ∀ i, A i ↔ B i) (j : Fin n) : below A j = below B j := by
  unfold below
  exact congrArg Finset.card (Finset.filter_congr fun i _ => by rw [h i])

/-! ## Both halves, rotated and added -/

/-- The rows below 512, marked across all columns. -/
def low : IVec S1024x512 1 :=
  broadcastTo S1024x512 (shapeCast S1024x1 (cmpi .slt rows1024 (broadcast S1024x1 512#32)) shapeCasts_S1024x1_S1024x1) broadcasts_S1024x1_S1024x512

theorem low_iff (k : Fin 1024) (l : Fin 512) : low (ix2 k l) = 1#1 ↔ k.val < 512 := by
  unfold low
  rw [shapeCast_self, broadcastTo_apply _ _ (ix2 k l) (ix2 k (0 : Fin 1)) (fun a => by
    match a with
    | ⟨0, _⟩ => rfl
    | ⟨1, _⟩ => rfl)]
  show IntOp.cmpi .slt (iota .tc S1024x1 32 [0] iota_S1024x1_d0_w32 (ix2 k (0 : Fin 1))) 512#32 = 1#1 ↔ _
  rw [iota_single_apply]
  show BitVec.ofBool ((BitVec.ofNat 32 k.val).slt (BitVec.ofNat 32 512)) = 1#1 ↔ _
  have hk := k.isLt
  rw [BitVec.slt_eq_decide, StableHlo.Predicate.toInt_ofNat_small k.val (by omega), StableHlo.Predicate.toInt_ofNat_small 512 (by omega)]
  by_cases h : k.val < 512
  · rw [decide_eq_true (by omega)]; simp [h]
  · rw [decide_eq_false (by omega)]; simp [h]

/-- A row of the result: at the row it is rotated from, the partner's sorted rows below 512 and the device's own above. -/
theorem outAt_apply (c : Dev nD) (r k : Fin 1024) (l : Fin 512) (hk : k.val = (r.val + 1024 - (shift m c).toNat % 1024) % 1024) :
    outAt m c (ix2 r l) = if k.val < 512 then XL m (peer c) (ix2 k l) else XL m c (ix2 k l) := by
  have hix : ∀ b : Fin S1024x512.rank, ((ix2 k l : S1024x512.Idx) b).val
      = if b = 0 then (((ix2 r l : S1024x512.Idx) b).val + S1024x512.size b - (shift m c).toNat % S1024x512.size b) % S1024x512.size b
        else ((ix2 r l : S1024x512.Idx) b).val := fun b => by
    match b with
    | ⟨0, _⟩ => exact hk
    | ⟨1, _⟩ => rfl
  show dynamicRotate 0 (shift m c) none (select low (broadcast S1024x512 (Scalar.ofBits (F := Ideal) .bf16 0x0000#16)) (XL m c)) rotates_S1024x512_d0 (ix2 r l)
    + dynamicRotate 0 (shift m c) none (select low (XL m (peer c)) (broadcast S1024x512 (Scalar.ofBits (F := Ideal) .bf16 0x0000#16))) rotates_S1024x512_d0 (ix2 r l) = (_ : EReal)
  rw [dynamicRotate_apply 0 (shift m c) _ _ (ix2 r l) (ix2 k l) hix, dynamicRotate_apply 0 (shift m c) _ _ (ix2 r l) (ix2 k l) hix,
    select_apply, select_apply, broadcast_apply]
  have hz : (Scalar.ofBits (F := Ideal) .bf16 0x0000#16 : EReal) = 0 := by simp [Scalar.ofBits, FloatOps.ofBits, Ideal.ofBits, Ideal.ieee]
  have hb1 : ∀ b : BitVec 1, b = 0#1 ∨ b = 1#1 := by decide
  by_cases h : k.val < 512
  · rw [(low_iff k l).2 h, select_one, select_one, if_pos h, hz]
    exact zero_add _
  · rw [(hb1 _).resolve_right fun h' => h ((low_iff k l).1 h'), select_zero, select_zero, if_neg h, hz]
    exact add_zero _

theorem shift_eq (c : Dev nD) (h : Half (dv m c)) : (shift m c).toNat = if c.val % 8 < 4 then 512 else 0 := by
  unfold shift place
  rw [nSelf_half m c h, side_eq]
  unfold side
  split <;> rfl

/-! ## Which row ends where -/

/-- The device's side as a block number. -/
def blk (c : Dev nD) : Fin 2 := ⟨c.val / 4 % 2, Nat.mod_lt _ (by decide)⟩

theorem side_blk (c : Dev nD) : (side c).toNat = (blk c).val := by revert c; decide
theorem side_peer (c : Dev nD) : (side (peer c) = 0#32 ∧ side c = 1#32) ∨ (side (peer c) = 1#32 ∧ side c = 0#32) := by revert c; decide
theorem blk_peer (c : Dev nD) : (blk (peer c)).val = 1 - (blk c).val := by revert c; decide
theorem blk_low (c : Dev nD) : c.val % 8 < 4 ↔ (blk c).val = 0 := by revert c; decide

/-- In the sorted rows from 512 on stand the staying rows, in order. -/
theorem sorted_high (c : Dev nD) (h : Half (dv m c)) (k : Fin 1024) (hk : 512 ≤ k.val) (l : Fin 512) :
    ∃ j : Fin 1024, dv m c (ix1 j) = side c ∧ 512 + below (fun i => dv m c (ix1 i) = side c) j = k.val ∧ XL m c (ix2 k l) = xv m c (ix2 j l) := by
  obtain ⟨j, hj⟩ := order_surj (keep m c) k
  have ht := keep_total m c h
  have hn := total_add_not (keep m c)
  refine ⟨j, ?_, ?_, sorted_apply m c h k l j hj⟩
  · by_contra hc
    have ho : order (keep m c) j = below (fun i => ¬keep m c i) j := if_neg hc
    have hl := below_lt_total (fun i => ¬keep m c i) (j := j) hc
    omega
  · have ho : order (keep m c) j = if keep m c j then _ else _ := rfl
    by_cases hc : keep m c j
    · rw [if_pos hc] at ho
      have : below (fun i => dv m c (ix1 i) = side c) j = below (keep m c) j := below_congr (fun i => Iff.rfl) j
      omega
    · rw [if_neg hc] at ho
      have hl := below_lt_total (fun i => ¬keep m c i) (j := j) hc
      omega

/-- In the sorted rows below 512 stand the rows for the partner, in order. -/
theorem sorted_low (c : Dev nD) (h : Half (dv m c)) (k : Fin 1024) (hk : k.val < 512) (l : Fin 512) :
    ∃ j : Fin 1024, dv m c (ix1 j) = side (peer c) ∧ below (fun i => dv m c (ix1 i) = side (peer c)) j = k.val ∧ XL m c (ix2 k l) = xv m c (ix2 j l) := by
  obtain ⟨j, hj⟩ := order_surj (keep m c) k
  have ht := keep_total m c h
  have hn := total_add_not (keep m c)
  have hs : ∀ i, dv m c (ix1 i) = side (peer c) ↔ ¬keep m c i := fun i => by
    unfold keep
    rcases half_bits _ h i with e | e <;> rcases side_peer c with ⟨e1, e2⟩ | ⟨e1, e2⟩ <;> rw [e, e1, e2] <;> decide
  have hj' : ¬keep m c j := fun hc => by
    have ho : order (keep m c) j = total (fun i => ¬keep m c i) + below (keep m c) j := if_pos hc
    omega
  have ho : order (keep m c) j = below (fun i => ¬keep m c i) j := if_neg hj'
  exact ⟨j, (hs j).2 hj', (below_congr hs j).trans (ho.symm.trans hj), sorted_apply m c h k l j hj⟩

/-- Row `r` of a device's result comes from the block `r / 512`, and there from the row for this device that has
`r % 512` such rows before it. -/
theorem result_row (hh : ∀ c, Half (dv m c)) (c : Dev nD) (r : Fin 1024) (l : Fin 512) :
    ∃ (c' : Dev nD) (j : Fin 1024), (blk c').val = r.val / 512 ∧ dv m c' (ix1 j) = side c
      ∧ below (fun i => dv m c' (ix1 i) = side c) j = r.val % 512 ∧ outAt m c (ix2 r l) = xv m c' (ix2 j l) := by
  have hr := r.isLt
  have hs := shift_eq m c (hh c)
  have hb := blk_low c
  have hb2 := (blk c).isLt
  have hbp := blk_peer c
  obtain ⟨k, hk⟩ : ∃ k : Fin 1024, k.val = (r.val + 1024 - (shift m c).toNat % 1024) % 1024 := ⟨⟨_, Nat.mod_lt _ (by decide)⟩, rfl⟩
  have ho := outAt_apply m c r k l hk
  rw [hs] at hk
  by_cases h : k.val < 512
  · rw [if_pos h] at ho
    obtain ⟨j, h1, h2, h3⟩ := sorted_low m (peer c) (hh _) k h l
    rw [peer_peer] at h1
    simp only [peer_peer] at h2
    refine ⟨peer c, j, ?_, h1, ?_, ho.trans h3⟩ <;> split at hk <;> omega
  · rw [if_neg h] at ho
    obtain ⟨j, h1, h2, h3⟩ := sorted_high m c (hh _) k (by omega) l
    refine ⟨c, j, ?_, h1, ?_, ho.trans h3⟩ <;> split at hk <;> omega

end Cert.Exchange

end
-- ==== Proof.Whole.lean ====
/-
# What the reference computes

Row `e` of the whole array ends at the place of `e` in the stable sort by destination.
-/
module

public import proofs.«01_k».proof.Proof.Ranks
public import proofs.«01_k».proof.Proof.Gen.ReferenceIdeal.Run
public import Idealize.ShloMosaic.Lib.Routing.Ops
public import Idealize.ShloMosaic.Lib.ValueIdx

@[expose] public section

noncomputable section

namespace Cert.Exchange.Whole

open Cert.ReferenceIdeal Cert.ReferenceIdeal.Gen
open Idealize.ShloMosaic Idealize.ShloMosaic.ValueIdx Cert.Exchange

variable (X : FVec Ideal S2048x512 .f32) (D : IVec S2048 32)

/-- The reference's sorted positions. -/
def positions : IVec S2048 32 := (Host.sort2 S2048 0 comparator_i32_i32_d0 D (iotaInDim S2048 32 0)).2
/-- The reference's result. -/
def value : FVec Ideal S2048x512 .bf16 :=
  truncf .bf16 (Host.gather gather_S2048x512_S2048x1_S2048x512_1_0_n_n_0_1_1512 X
    (broadcastInDim S2048x1 ![0] bcast_S2048_S2048x1_0
      (select (cmpi .slt (positions D) (broadcastInDim S2048 ![] bcast_S_S2048 (constantI S_ 32 0#32)))
        (addi (positions D) (broadcastInDim S2048 ![] bcast_S_S2048 (constantI S_ 32 2048#32))) (positions D)))) bitsLt_bf16_f32

/-- The destinations as sort keys. -/
def key (e : Fin 2048) : ℕ := (D (ix1 e)).toNat

theorem ofFin_eq (e : Fin 2048) : Shape.Idx.ofFin e = ix1 e := by
  funext a
  obtain rfl : a = 0 := Subsingleton.elim _ _
  rfl

theorem slt_bits {a b : BitVec 32} (ha : a = 0#32 ∨ a = 1#32) (hb : b = 0#32 ∨ b = 1#32) :
    (IntOp.cmpi .slt a b == 1#1) = decide (a.toNat < b.toNat) := by
  rcases ha with rfl | rfl <;> rcases hb with rfl | rfl <;> decide

/-- The second of two arrays sorted by the first, along their one axis. -/
theorem sort2_snd {n : ℕ} {α β : Type} (cmp : α × β → α × β → BitVec 1) (x : (⟨1, ![n]⟩ : Shape).Idx → α) (y : (⟨1, ![n]⟩ : Shape).Idx → β) (r : Fin n) :
    (Host.sort2 ⟨1, ![n]⟩ 0 cmp x y).2 (ix1 r)
      = y (ix1 (sortedFrom (fun k k' => cmp (x (Shape.Idx.ofFin k), y (Shape.Idx.ofFin k)) (x (Shape.Idx.ofFin k'), y (Shape.Idx.ofFin k')) == 1#1) r)) := by
  unfold Host.sort2
  simp only [dif_pos (show 0 < (⟨1, ![n]⟩ : Shape).rank from Nat.one_pos)]
  refine congrArg y (funext fun a => ?_)
  obtain rfl : a = 0 := Subsingleton.elim _ _
  simp
  rfl

theorem positions_apply (hD : ∀ e, D e = 0#32 ∨ D e = 1#32) (r : Fin 2048) :
    positions D (ix1 r) = BitVec.ofNat 32 (sortedFrom (fun a b => decide (key D a < key D b)) r).val := by
  have h : positions D (ix1 r) = BitVec.ofNat 32 (sortedFrom (fun k k' : Fin 2048 => IntOp.cmpi .slt (D (Shape.Idx.ofFin k)) (D (Shape.Idx.ofFin k')) == 1#1) r).val := by
    exact sort2_snd comparator_i32_i32_d0 D (iotaInDim S2048 32 0) r
  rw [h]
  refine congrArg (fun f => BitVec.ofNat 32 (sortedFrom f r).val) ?_
  funext a b
  rw [slt_bits (hD _) (hD _), ofFin_eq, ofFin_eq]
  rfl

theorem word_nonneg {e : ℕ} (h : e < 2048) : (IntOp.cmpi .slt (BitVec.ofNat 32 e) 0#32 : BitVec 1) = 0#1 := by
  have : (BitVec.ofNat 32 e).slt 0#32 = false := by
    rw [BitVec.slt_eq_decide, StableHlo.Predicate.toInt_ofNat_small e (by omega)]
    simp
  show BitVec.ofBool ((BitVec.ofNat 32 e).slt 0#32) = _
  rw [this]; rfl

/-- A vector as a column. -/
theorem column_apply {n : ℕ} {α : Type} (hn : n ≠ 1) (h : (⟨1, ![n]⟩ : Shape).BroadcastsInDim ⟨2, ![n, 1]⟩ ![0]) (x : (⟨1, ![n]⟩ : Shape).Idx → α) (r : Fin n) :
    broadcastInDim ⟨2, ![n, 1]⟩ ![0] h x (ix2 r 0) = x (ix1 r) := by
  unfold broadcastInDim
  refine congrArg x (funext fun a => ?_)
  obtain rfl : a = 0 := Subsingleton.elim _ _
  exact dif_neg hn

/-- The reference's row `r` is the row that the sort reads there. -/
theorem value_apply (hD : ∀ e, D e = 0#32 ∨ D e = 1#32) (r : Fin 2048) (l : Fin 512) :
    value X D (ix2 r l) = X (ix2 (sortedFrom (fun a b => decide (key D a < key D b)) r) l) := by
  unfold value
  refine Routing.gather_row gather_S2048x512_S2048x1_S2048x512_1_0_n_n_0_1_1512 rfl rfl rfl rfl rfl X _ r l _ ?_ (by decide)
  refine (column_apply (by decide) bcast_S2048_S2048x1_0 _ r).trans ?_
  show Scalar.select (IntOp.cmpi .slt (positions D (ix1 r)) 0#32) (IntOp.addi (positions D (ix1 r)) 2048#32) (positions D (ix1 r)) = _
  rw [positions_apply D hD, word_nonneg (Fin.isLt _), select_zero]

/-- Row `e` of the whole array ends at its place in the stable sort. -/
theorem value_place (hD : ∀ e, D e = 0#32 ∨ D e = 1#32) (e : Fin 2048) (l : Fin 512) (r : Fin 2048) (hr : r.val = placeOf (key D) e) :
    value X D (ix2 r l) = X (ix2 e l) := by
  rw [value_apply X D hD]
  have : r = ⟨placeOf (key D) e, placeOf_lt _ _⟩ := Fin.ext hr
  rw [this, sortedFrom_placeOf]

end Cert.Exchange.Whole

end
-- ==== Proof.Agree.lean ====
/-
# The kernel's result is the reference's

Each device's rows are those the stable sort of the whole array puts at its block.
-/
module

public import proofs.«01_k».proof.Proof.Frames
public import proofs.«01_k».proof.Proof.Placed
public import proofs.«01_k».proof.Proof.Whole

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable (m : (ℓ : Loc nD τ sig) → Buf (Elt Ideal) ℓ)

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_balanced_Kernel.Facts := Cert.Pre_balanced_Kernel.Gen.facts

theorem two_blocks : 2048 = 1024 + 1024 := rfl

/-! ## A device's blocks of the whole arrays -/

theorem mesh_blk (c : Dev nD) : Layout.meshLin [2, 2, 4] c.val [1] = (blk c).val := by revert c; decide

/-- A device's block of a whole array of rows, at a row. -/
theorem block_rows {α : Type} (v : (⟨2, ![2048, 512]⟩ : Shape).Idx → α) (c : Dev nD) (j : Fin 1024) (l : Fin 512) :
    Layout.blockN ⟨2, ![1024, 512]⟩ ⟨2, ![2048, 512]⟩ (Layout.meshBlock [2, 2, 4] ![[1], []] c) v (by decide) (ix2 j l) = v (ix2 (inBlock two_blocks (blk c) j) l) := by
  refine congrArg v (funext fun a => Fin.ext ?_)
  rw [Layout.TilesN.idx_val]
  match a with
  | ⟨0, _⟩ =>
    show Layout.meshLin [2, 2, 4] c.val [1] * 1024 + j.val = 1024 * (blk c).val + j.val
    rw [mesh_blk, Nat.mul_comm]
  | ⟨1, _⟩ =>
    show 0 * 512 + l.val = l.val
    omega

/-- A device's block of a whole array of destinations, at a row. -/
theorem block_dests {α : Type} (v : (⟨1, ![2048]⟩ : Shape).Idx → α) (c : Dev nD) (j : Fin 1024) :
    Layout.blockN ⟨1, ![1024]⟩ ⟨1, ![2048]⟩ (Layout.meshBlock [2, 2, 4] ![[1]] c) v (by decide) (ix1 j) = v (ix1 (inBlock two_blocks (blk c) j)) := by
  refine congrArg v (funext fun a => Fin.ext ?_)
  rw [Layout.TilesN.idx_val]
  match a with
  | ⟨0, _⟩ =>
    show Layout.meshLin [2, 2, 4] c.val [1] * 1024 + j.val = 1024 * (blk c).val + j.val
    rw [mesh_blk, Nat.mul_comm]

/-- Some device holds each block. -/
theorem blk_surj (q : Fin 2) : ∃ c : Dev nD, blk c = q := by revert q; decide

theorem inBlock_surj {n N : ℕ} (hN : N = n + n) (e : Fin N) : ∃ (q : Fin 2) (j : Fin n), inBlock hN q j = e := by
  have he := e.isLt
  by_cases h : e.val < n
  · refine ⟨0, ⟨e.val, h⟩, Fin.ext ?_⟩
    show n * 0 + e.val = e.val
    omega
  · refine ⟨1, ⟨e.val - n, by omega⟩, Fin.ext ?_⟩
    show n * 1 + (e.val - n) = e.val
    omega

/-! ## The results agree -/

section Agree
variable (X : FVec Ideal ⟨2, ![2048, 512]⟩ .f32) (D : IVec ⟨1, ![2048]⟩ 32)
  (hx : ∀ c j l, xv m c (ix2 j l) = X (ix2 (inBlock two_blocks (blk c) j) l))
  (hd : ∀ c j, dv m c (ix1 j) = D (ix1 (inBlock two_blocks (blk c) j)))
  (hh : ∀ c, Half (dv m c))
include hd hh

theorem whole_bits (e : Fin 2048) : D (ix1 e) = 0#32 ∨ D (ix1 e) = 1#32 := by
  obtain ⟨q, j, rfl⟩ := inBlock_surj two_blocks e
  obtain ⟨c, rfl⟩ := blk_surj q
  rw [← hd]
  exact half_bits _ (hh c) j

theorem whole_total (b : BitVec 32) (hb : ∀ c, count (dv m c) b = 512) (q : Fin 2) :
    total (fun i : Fin 1024 => Whole.key D (inBlock two_blocks q i) = b.toNat) = 512 := by
  obtain ⟨c, rfl⟩ := blk_surj q
  rw [← hb c, count_total]
  refine congrArg Finset.card (Finset.filter_congr fun i _ => ?_)
  show (D (ix1 (inBlock two_blocks (blk c) i))).toNat = b.toNat ↔ _
  rw [← hd]
  exact ⟨BitVec.eq_of_toNat_eq, congrArg _⟩

include hx

/-- A device's result is its block of the reference's. -/
theorem result_agrees (c : Dev nD) (r : Fin 1024) (l : Fin 512) :
    outAt m c (ix2 r l) = Whole.value X D (ix2 (inBlock two_blocks (blk c) r) l) := by
  obtain ⟨c', j, h1, h2, h3, h4⟩ := result_row m hh c r l
  have hD := whole_bits m D hd hh
  have hkey : ∀ i, Whole.key D (inBlock two_blocks (blk c') i) = (dv m c' (ix1 i)).toNat := fun i => congrArg BitVec.toNat (hd c' i).symm
  have hkj : Whole.key D (inBlock two_blocks (blk c') j) = (blk c).val := by rw [hkey, h2, side_blk]
  have hp := placeOf_inBlock two_blocks (Whole.key D) 512
    (fun e => (hD e).imp (fun h => by unfold Whole.key; rw [h]; rfl) fun h => by unfold Whole.key; rw [h]; rfl)
    (whole_total m D hd hh 0#32 fun c => (hh c).1) (whole_total m D hd hh 1#32 fun c => (hh c).2) (blk c') j
  have hb : below (fun i => Whole.key D (inBlock two_blocks (blk c') i) = Whole.key D (inBlock two_blocks (blk c') j)) j = r.val % 512 := by
    rw [← h3]
    refine below_congr (fun i => ?_) j
    rw [hkey, hkey, h2]
    exact ⟨BitVec.eq_of_toNat_eq, congrArg _⟩
  rw [hb, hkj, h1] at hp
  rw [h4, hx]
  refine (Whole.value_place X D (fun e => (eq_ix1 e).symm ▸ hD (e 0)) _ l _ ?_).symm
  rw [hp]
  show 1024 * (blk c).val + r.val = _
  omega

end Agree

theorem algebraic : Cert.algebraic_KernelIdeal_ReferenceIdeal := fun m ρ m' ρ' hp hm => by
  have hh : ∀ c, Half (dv m c) := fun c => half_of_pre (xv m c) (dv m c) (hp c)
  refine ⟨Whole.value (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, ?_⟩
  · refine (θ_run defs _ _).mono (fun r h c => ⟨(h.1 c).1.trans ?_, (h.1 c).2⟩) (run_main (F := Ideal) m ρ (give_of_pre (F := Ideal) m hp))
    funext i
    rw [eq_ix2 i]
    refine (result_agrees m _ _ (fun c j l => ?_) (fun c j => ?_) hh c _ _).trans (block_rows _ c _ _).symm
    · exact (congrFun (hm c).1 (ix2 j l)).trans (block_rows _ c j l)
    · exact (congrFun (hm c).2 (ix1 j)).trans (block_dests _ c j)
  · exact (θ_run Cert.ReferenceIdeal.defs _ _).mono (fun r h => h 0) (Cert.ReferenceIdeal.Value.run (F := Ideal) m' ρ')

end Cert.Exchange

end
-- ==== Proof.lean ====
/-
# The claims about the exchange of rows

The frames come from `Cert.Exchange.frame_kernel`, `frame_kernelIdeal` and `frame_reference`; the ideal program is the
kernel's own text, so `preserves` has nothing to show; `Cert.Exchange.algebraic` says that the kernel's result is the
reference's.
-/
module

public import proofs.«01_k».proof.Proof.Gen.ReferenceIdeal.Run
public import proofs.«01_k».proof.Defs
public import proofs.«01_k».proof.Proof.Frames
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_balanced_Kernel
public import proofs.«01_k».proof.Proof.Gen.Pre_balanced_ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_balanced_Kernel.Gen.facts,
  Cert.Pre_balanced_ReferenceIdeal.Gen.facts, Cert.Exchange.frame_kernel, Cert.Exchange.frame_kernelIdeal, Cert.Exchange.frame_reference,
  Cert.Exchange.frame_reference_balanced, trivial, Cert.Exchange.algebraic⟩

end Cert.Proof

end
